-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_edge_among_outputs [hPre_no_edge_among_outputs : Cert.Pre_no_edge_among_outputs.Facts] (m : (ℓ : Loc Cert.KernelIdeal.nD Cert.KernelIdeal.τ Cert.KernelIdeal.sig) → Buf (Elt Ideal) ℓ) : Prop :=
  ∀ c : Dev Cert.KernelIdeal.nD,
    (Cert.Pre_no_edge_among_outputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_edge_among_outputs [hPre_no_edge_among_outputs : Cert.Pre_no_edge_among_outputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_edge_among_outputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_edge_among_outputs [hKernelIdeal : Cert.KernelIdeal.Facts] [hPre_no_edge_among_outputs : Cert.Pre_no_edge_among_outputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_edge_among_outputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_edge_among_outputs [hReferenceIdeal : Cert.ReferenceIdeal.Facts] [hPre_no_edge_among_outputs : Cert.Pre_no_edge_among_outputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_edge_among_outputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_no_edge_among_outputs [hKernelIdeal : Cert.KernelIdeal.Facts] [hReferenceIdeal : Cert.ReferenceIdeal.Facts] [hPre_no_edge_among_outputs : Cert.Pre_no_edge_among_outputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_edge_among_outputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_edge_among_outputs : Cert.Pre_no_edge_among_outputs.Facts),
    quiescent_Kernel (hKernel := hKernel)
    ∧ quiescent_KernelIdeal (hKernelIdeal := hKernelIdeal)
    ∧ quiescent_KernelIdeal_pre_no_edge_among_outputs (hKernelIdeal := hKernelIdeal) (hPre_no_edge_among_outputs := hPre_no_edge_among_outputs)
    ∧ quiescent_ReferenceIdeal (hReferenceIdeal := hReferenceIdeal)
    ∧ quiescent_ReferenceIdeal_pre_no_edge_among_outputs (hReferenceIdeal := hReferenceIdeal) (hPre_no_edge_among_outputs := hPre_no_edge_among_outputs)
    ∧ preserves_Kernel_KernelIdeal
    ∧ algebraic_KernelIdeal_ReferenceIdeal_pre_no_edge_among_outputs (hKernelIdeal := hKernelIdeal) (hReferenceIdeal := hReferenceIdeal) (hPre_no_edge_among_outputs := hPre_no_edge_among_outputs)
-- ==== Pre_no_edge_among_outputs.lean ====
abbrev S1024x512 : Shape := ⟨2, ![1024, 512]⟩
abbrev S2048x2048 : Shape := ⟨2, ![2048, 2048]⟩
abbrev S2048 : Shape := ⟨1, ![2048]⟩
abbrev S256x256 : Shape := ⟨2, ![256, 256]⟩
abbrev S_ : Shape := ⟨0, ![]⟩

class Facts : Prop where
  slices_S2048x2048_S256x256_1792_1792 : S2048x2048.Slices ![1792, 1792] S256x256
  bcast_S_S256x256 : S_.BroadcastsInDim S256x256 (![] : Fin 0 → Fin S256x256.rank)

variable [Facts]

def fn {F : FTy → Type} [FloatOps F] (main_arg0 : FVec F S1024x512 .f32) (main_arg1 : FVec F S2048x2048 .f32) (main_arg2 : FVec F S2048 .f32) : IVec S256x256 1 :=
  let main_v0 : FVec F S256x256 .f32 := (extractStridedSlice S256x256 ![1792, 1792] · slices_S2048x2048_S256x256_1792_1792) main_arg1
  let main_v1 : IVec S256x256 32 := iotaInDim S256x256 32 0
  let main_v2 : IVec S256x256 32 := iotaInDim S256x256 32 1
  let main_cst : FVec F S_ .f32 := constant S_ .f32 0x00000000#32
  let main_v3 : FVec F S256x256 .f32 := broadcastInDim S256x256 ![] bcast_S_S256x256 main_cst
  let main_v4 : IVec S256x256 1 := cmpf .oeq main_v0 main_v3
  let main_v5 : IVec S256x256 1 := cmpi .sle main_v1 main_v2
  let main_v6 : IVec S256x256 1 := ori main_v4 main_v5
  main_v6
-- ==== Kernel.lean ====
abbrev S1024x512 : Shape := ⟨2, ![1024, 512]⟩
abbrev S2048x2048 : Shape := ⟨2, ![2048, 2048]⟩
abbrev S2048 : Shape := ⟨1, ![2048]⟩
abbrev S512x1024 : Shape := ⟨2, ![512, 1024]⟩
abbrev S1536 : Shape := ⟨1, ![1536]⟩
abbrev S12x128x1 : Shape := ⟨3, ![12, 128, 1]⟩
abbrev S256x1024 : Shape := ⟨2, ![256, 1024]⟩
abbrev S128x2048 : Shape := ⟨2, ![128, 2048]⟩
abbrev S128x128 : Shape := ⟨2, ![128, 128]⟩
abbrev S1x128x1 : Shape := ⟨3, ![1, 128, 1]⟩
abbrev S128x1024 : Shape := ⟨2, ![128, 1024]⟩
abbrev S2048x1024 : Shape := ⟨2, ![2048, 1024]⟩
abbrev S1536x1024 : Shape := ⟨2, ![1536, 1024]⟩
abbrev S128x768 : Shape := ⟨2, ![128, 768]⟩
abbrev S768x1024 : Shape := ⟨2, ![768, 1024]⟩
abbrev S128x1 : Shape := ⟨2, ![128, 1]⟩
abbrev S128x256 : Shape := ⟨2, ![128, 256]⟩
abbrev S8x1024 : Shape := ⟨2, ![8, 1024]⟩
abbrev S16x8 : Shape := ⟨2, ![16, 8]⟩
abbrev S1x1024 : Shape := ⟨2, ![1, 1024]⟩
abbrev S8x1 : Shape := ⟨2, ![8, 1]⟩
abbrev S8x8 : Shape := ⟨2, ![8, 8]⟩
abbrev S8x16 : Shape := ⟨2, ![8, 16]⟩
abbrev S16x1024 : Shape := ⟨2, ![16, 1024]⟩
abbrev S8x24 : Shape := ⟨2, ![8, 24]⟩
abbrev S24x1024 : Shape := ⟨2, ![24, 1024]⟩
abbrev S8x32 : Shape := ⟨2, ![8, 32]⟩
abbrev S32x1024 : Shape := ⟨2, ![32, 1024]⟩
abbrev S8x40 : Shape := ⟨2, ![8, 40]⟩
abbrev S40x1024 : Shape := ⟨2, ![40, 1024]⟩
abbrev S8x48 : Shape := ⟨2, ![8, 48]⟩
abbrev S48x1024 : Shape := ⟨2, ![48, 1024]⟩
abbrev S8x56 : Shape := ⟨2, ![8, 56]⟩
abbrev S56x1024 : Shape := ⟨2, ![56, 1024]⟩
abbrev S8x64 : Shape := ⟨2, ![8, 64]⟩
abbrev S64x1024 : Shape := ⟨2, ![64, 1024]⟩
abbrev S8x72 : Shape := ⟨2, ![8, 72]⟩
abbrev S72x1024 : Shape := ⟨2, ![72, 1024]⟩
abbrev S8x80 : Shape := ⟨2, ![8, 80]⟩
abbrev S80x1024 : Shape := ⟨2, ![80, 1024]⟩
abbrev S8x88 : Shape := ⟨2, ![8, 88]⟩
abbrev S88x1024 : Shape := ⟨2, ![88, 1024]⟩
abbrev S8x96 : Shape := ⟨2, ![8, 96]⟩
abbrev S96x1024 : Shape := ⟨2, ![96, 1024]⟩
abbrev S8x104 : Shape := ⟨2, ![8, 104]⟩
abbrev S104x1024 : Shape := ⟨2, ![104, 1024]⟩
abbrev S8x112 : Shape := ⟨2, ![8, 112]⟩
abbrev S112x1024 : Shape := ⟨2, ![112, 1024]⟩
abbrev S1024x256 : Shape := ⟨2, ![1024, 256]⟩

abbrev nBuf : Space → Nat
  | .hbm => 8
  | .vmem => 11
  | .smem => 0
  | _ => 0

abbrev bufTy : (tb : Table) → Fin (tcTables nBuf tb) → BufTy
  | .hbm, ⟨0, _⟩ => ⟨S1024x512, .f32⟩
  | .hbm, ⟨1, _⟩ => ⟨S2048x2048, .f32⟩
  | .hbm, ⟨2, _⟩ => ⟨S2048, .f32⟩
  | .hbm, ⟨3, _⟩ => ⟨S512x1024, .f32⟩
  | .hbm, ⟨4, _⟩ => ⟨S1536, .f32⟩
  | .hbm, ⟨5, _⟩ => ⟨S12x128x1, .f32⟩
  | .hbm, ⟨6, _⟩ => ⟨S256x1024, .f32⟩
  | .hbm, ⟨7, _⟩ => ⟨S1024x256, .f32⟩
  | .local _ .vmem, ⟨0, _⟩ => ⟨S512x1024, .f32⟩
  | .local _ .vmem, ⟨1, _⟩ => ⟨S128x2048, .f32⟩
  | .local _ .vmem, ⟨2, _⟩ => ⟨S128x2048, .f32⟩
  | .local _ .vmem, ⟨3, _⟩ => ⟨S128x128, .f32⟩
  | .local _ .vmem, ⟨4, _⟩ => ⟨S128x128, .f32⟩
  | .local _ .vmem, ⟨5, _⟩ => ⟨S1x128x1, .f32⟩
  | .local _ .vmem, ⟨6, _⟩ => ⟨S1x128x1, .f32⟩
  | .local _ .vmem, ⟨7, _⟩ => ⟨S128x1024, .f32⟩
  | .local _ .vmem, ⟨8, _⟩ => ⟨S128x1024, .f32⟩
  | .local _ .vmem, ⟨9, _⟩ => ⟨S2048x1024, .f32⟩
  | .local _ .vmem, ⟨10, _⟩ => ⟨S128x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![12], ![false]⟩

def k0_cond7 (i : grid0.Coords) : BitVec 1 :=
  let arg0 : BitVec 32 := BitVec.ofNat 32 (i 0).val
  let c10_i32 : BitVec 32 := 10#32
  let v32 : BitVec 1 := Scalar.cmpi .slt arg0 c10_i32
  let v33 : BitVec 32 := Scalar.extui v32
  let c0_i32_16 : BitVec 32 := 0#32
  let v34 : BitVec 1 := Scalar.cmpi .ne v33 c0_i32_16
  v34

def k0_off1 (i : grid0.Coords) (c0_i32_24 : BitVec 32) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v133 : BitVec 32 := Scalar.addi v4 c0_i32_24
  let v134 : Index := Scalar.indexCast v133
  let c0_25 : Index := 0#32
  ![v134.toNat, 0]
def k0_off2 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v140 : Index := Scalar.indexCast v4
  let c0_29 : Index := 0#32
  ![v140.toNat, 0]
def k0_off3 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v244 : Index := Scalar.indexCast v4
  let c0_37 : Index := 0#32
  ![v244.toNat, 0]
def k0_off4 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v348 : Index := Scalar.indexCast v4
  let c0_45 : Index := 0#32
  ![v348.toNat, 0]
def k0_off5 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v452 : Index := Scalar.indexCast v4
  let c0_53 : Index := 0#32
  ![v452.toNat, 0]
def k0_off6 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v556 : Index := Scalar.indexCast v4
  let c0_61 : Index := 0#32
  ![v556.toNat, 0]
def k0_off7 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v660 : Index := Scalar.indexCast v4
  let c0_69 : Index := 0#32
  ![v660.toNat, 0]
def k0_off8 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v764 : Index := Scalar.indexCast v4
  let c0_77 : Index := 0#32
  ![v764.toNat, 0]
def k0_off9 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v868 : Index := Scalar.indexCast v4
  let c0_85 : Index := 0#32
  ![v868.toNat, 0]
def k0_off10 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v972 : Index := Scalar.indexCast v4
  let c0_93 : Index := 0#32
  ![v972.toNat, 0]
def k0_off11 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v1076 : Index := Scalar.indexCast v4
  let c0_101 : Index := 0#32
  ![v1076.toNat, 0]
def k0_off12 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v1180 : Index := Scalar.indexCast v4
  let c0_109 : Index := 0#32
  ![v1180.toNat, 0]
def k0_off13 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v1284 : Index := Scalar.indexCast v4
  let c0_117 : Index := 0#32
  ![v1284.toNat, 0]
def k0_off14 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v1388 : Index := Scalar.indexCast v4
  let c0_125 : Index := 0#32
  ![v1388.toNat, 0]
def k0_off15 (i : grid0.Coords) : Fin 2 → Nat :=
  let c512_i32 : BitVec 32 := 512#32
  let arg0 : BitVec 32 := BitVec.ofNat 32 (i 0).val
  let c128_i32 : BitVec 32 := 128#32
  let v3 : BitVec 32 := Scalar.muli arg0 c128_i32
  let v4 : BitVec 32 := Scalar.addi c512_i32 v3
  let v1492 : Index := Scalar.indexCast v4
  let c0_133 : Index := 0#32
  ![v1492.toNat, 0]
def k0_cond8 (i : grid0.Coords) : BitVec 1 :=
  let arg0 : BitVec 32 := BitVec.ofNat 32 (i 0).val
  let c10_i32_17 : BitVec 32 := 10#32
  let v35 : BitVec 1 := Scalar.cmpi .sge arg0 c10_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c4_i32_0 : BitVec 32 := 4#32
  let v1 : BitVec 32 := Scalar.addi c4_i32_0 arg0
  let c0_i32 : BitVec 32 := 0#32
  ![v0.toNat, v1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x512 : Shape := ⟨2, ![1024, 512]⟩
abbrev S2048x2048 : Shape := ⟨2, ![2048, 2048]⟩
abbrev S2048 : Shape := ⟨1, ![2048]⟩
abbrev S_ : Shape := ⟨0, ![]⟩
abbrev S1024x2048 : Shape := ⟨2, ![1024, 2048]⟩
abbrev S1 : Shape := ⟨1, ![1]⟩
abbrev S1536 : Shape := ⟨1, ![1536]⟩
abbrev S1024 : Shape := ⟨1, ![1024]⟩
abbrev S1024x256 : Shape := ⟨2, ![1024, 256]⟩

abbrev nBuf : Space → Nat
  | .hbm => 72
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S1024x2048, .f32⟩
  | .hbm, ⟨5, _⟩ => ⟨S_, .i32⟩
  | .hbm, ⟨6, _⟩ => ⟨S1, .i32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1536, .i32⟩
  | .hbm, ⟨11, _⟩ => ⟨S_, .i32⟩
  | .hbm, ⟨12, _⟩ => ⟨S1536, .i32⟩
  | .hbm, ⟨13, _⟩ => ⟨S1536, .i32⟩
  | .hbm, ⟨14, _⟩ => ⟨S_, .i32⟩
  | .hbm, ⟨15, _⟩ => ⟨S1536, .i32⟩
  | .hbm, ⟨16, _⟩ => ⟨S2048x2048, .f32⟩
  | .hbm, ⟨17, _⟩ => ⟨S2048, .f32⟩
  | .hbm, ⟨18, _⟩ => ⟨S_, .i32⟩
  | .hbm, ⟨19, _⟩ => ⟨S1024x2048, .f32⟩
  | .hbm, ⟨20, _⟩ => ⟨S1024x2048, .f32⟩
  | .hbm, ⟨21, _⟩ => ⟨S_, .i32⟩
  | .hbm, ⟨22, _⟩ => ⟨S_, .i1⟩
  | .hbm, ⟨23, _⟩ => ⟨S1, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S1, .i1⟩
  | .hbm, ⟨35, _⟩ => ⟨S1, .i1⟩
  | .hbm, ⟨36, _⟩ => ⟨S1, .i1⟩
  | .hbm, ⟨37, _⟩ => ⟨S_, .i1⟩
  | .hbm, ⟨38, _⟩ => ⟨S_, .i1⟩
  | .hbm, ⟨39, _⟩ => ⟨S2048, .f32⟩
  | .hbm, ⟨40, _⟩ => ⟨S2048, .i1⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S1024, .f32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1, .i32⟩
  | .hbm, ⟨61, _⟩ => ⟨S1024x2048, .f32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S1024x2048, .f32⟩
  | .hbm, ⟨69, _⟩ => ⟨S_, .i32⟩
  | .hbm, ⟨70, _⟩ => ⟨S_, .i32⟩
  | .hbm, ⟨71, _⟩ => ⟨S1024x256, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_while0c_c_8 : Ref sig .tc := ⟨.hbm, 21, rfl⟩
abbrev main_while0c_v9 : Ref sig .tc := ⟨.hbm, 22, rfl⟩
abbrev main_while0b_call0_v0 : Ref sig .tc := ⟨.hbm, 23, rfl⟩
abbrev main_while0b_v9 : Ref sig .tc := ⟨.hbm, 24, rfl⟩
abbrev main_while0b_call1_c : Ref sig .tc := ⟨.hbm, 25, rfl⟩
abbrev main_while0b_call1_v0 : Ref sig .tc := ⟨.hbm, 26, rfl⟩
abbrev main_while0b_call1_c_0 : Ref sig .tc := ⟨.hbm, 27, rfl⟩
abbrev main_while0b_call1_v1 : Ref sig .tc := ⟨.hbm, 28, rfl⟩
abbrev main_while0b_call1_v2 : Ref sig .tc := ⟨.hbm, 29, rfl⟩
abbrev main_while0b_call1_v3 : Ref sig .tc := ⟨.hbm, 30, rfl⟩
abbrev main_while0b_call1_c_1 : Ref sig .tc := ⟨.hbm, 31, rfl⟩
abbrev main_while0b_call1_c_2 : Ref sig .tc := ⟨.hbm, 32, rfl⟩
abbrev main_while0b_call1_v4 : Ref sig .tc := ⟨.hbm, 33, rfl⟩
abbrev main_while0b_call1_v5 : Ref sig .tc := ⟨.hbm, 34, rfl⟩
abbrev main_while0b_call1_v6 : Ref sig .tc := ⟨.hbm, 35, rfl⟩
abbrev main_while0b_call1_v7 : Ref sig .tc := ⟨.hbm, 36, rfl⟩
abbrev main_while0b_call1_c_3 : Ref sig .tc := ⟨.hbm, 37, rfl⟩
abbrev main_while0b_call1_v8 : Ref sig .tc := ⟨.hbm, 38, rfl⟩
abbrev main_while0b_call1_v9 : Ref sig .tc := ⟨.hbm, 39, rfl⟩
abbrev main_while0b_call1_v10 : Ref sig .tc := ⟨.hbm, 40, rfl⟩
abbrev main_while0b_call1_cst : Ref sig .tc := ⟨.hbm, 41, rfl⟩
abbrev main_while0b_call1_v11 : Ref sig .tc := ⟨.hbm, 42, rfl⟩
abbrev main_while0b_v10 : Ref sig .tc := ⟨.hbm, 43, rfl⟩
abbrev main_while0b_v11 : Ref sig .tc := ⟨.hbm, 44, rfl⟩
abbrev main_while0b_c_8 : Ref sig .tc := ⟨.hbm, 45, rfl⟩
abbrev main_while0b_v12 : Ref sig .tc := ⟨.hbm, 46, rfl⟩
abbrev main_while0b_c_9 : Ref sig .tc := ⟨.hbm, 47, rfl⟩
abbrev main_while0b_v13 : Ref sig .tc := ⟨.hbm, 48, rfl⟩
abbrev main_while0b_v14 : Ref sig .tc := ⟨.hbm, 49, rfl⟩
abbrev main_while0b_v15 : Ref sig .tc := ⟨.hbm, 50, rfl⟩
abbrev main_while0b_v16 : Ref sig .tc := ⟨.hbm, 51, rfl⟩
abbrev main_while0b_v17 : Ref sig .tc := ⟨.hbm, 52, rfl⟩
abbrev main_while0b_v18 : Ref sig .tc := ⟨.hbm, 53, rfl⟩
abbrev main_while0b_v19 : Ref sig .tc := ⟨.hbm, 54, rfl⟩
abbrev main_while0b_c_10 : Ref sig .tc := ⟨.hbm, 55, rfl⟩
abbrev main_while0b_v20 : Ref sig .tc := ⟨.hbm, 56, rfl⟩
abbrev main_while0b_c_11 : Ref sig .tc := ⟨.hbm, 57, rfl⟩
abbrev main_while0b_v21 : Ref sig .tc := ⟨.hbm, 58, rfl⟩
abbrev main_while0b_v22 : Ref sig .tc := ⟨.hbm, 59, rfl⟩
abbrev main_while0b_v23 : Ref sig .tc := ⟨.hbm, 60, rfl⟩
abbrev main_while0b_v24 : Ref sig .tc := ⟨.hbm, 61, rfl⟩
abbrev main_while0b_c_12 : Ref sig .tc := ⟨.hbm, 62, rfl⟩
abbrev main_while0b_v25 : Ref sig .tc := ⟨.hbm, 63, rfl⟩
abbrev main_while0b_c_13 : Ref sig .tc := ⟨.hbm, 64, rfl⟩
abbrev main_while0b_v26 : Ref sig .tc := ⟨.hbm, 65, rfl⟩
abbrev main_while0b_v27 : Ref sig .tc := ⟨.hbm, 66, rfl⟩
abbrev main_while0b_v28 : Ref sig .tc := ⟨.hbm, 67, rfl⟩
abbrev main_while0b_v29 : Ref sig .tc := ⟨.hbm, 68, rfl⟩
abbrev main_while0b_c_14 : Ref sig .tc := ⟨.hbm, 69, rfl⟩
abbrev main_while0b_v30 : Ref sig .tc := ⟨.hbm, 70, rfl⟩
abbrev main_v8 : Ref sig .tc := ⟨.hbm, 71, rfl⟩

abbrev nD : Nat := 1
abbrev τ : Topo := Topo.v7x

variable {F : FTy → Type} [FloatOps F]

abbrev main_while0_count : Scf.Loop 32 := ⟨0#32, 1536#32, 1#32⟩
-- ==== Proof.KernelBody.lean ====
/-
  The body of the kernel as it is printed for the machine, run at one grid point: what it touches and what it leaves
  alone. Nothing it stores is named here (the value is the idealized program's, `StageRun.lean`): the scratch arrays and the
  result's block end at something, the four operand blocks as they were.
-/
module

public import proofs.«01_k».proof.Proof.Gen.Kernel.Skeleton
public import proofs.«01_k».proof.Proof.Gen.Kernel.Frame
public import Idealize.ShloMosaic.Lib.Tactic

@[expose] public section

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) : Type := Buf (Elt F) (M.view.loc (c : Thread nD τ))
/-- That buffer held whole, at `f`. -/
abbrev pt (c : Dev nD) {sp : Space} {S : Shape} {e : EltTy} (M : Memref sig .tc sp S e) (f : Bf (F := F) c M) : sProp 𝕄 :=
  M.view.loc (c : Thread nD τ) ↦{fullShare} f

/-- The row-by-row stretch of the body runs from any contents of the three buffers it touches: it leaves the diagonal block
    of weights and the preactivations as they were, and the activations at something. -/
theorem rows_run (c : Dev nD) (i : grid0.Coords)
    (M1 : Memref sig .tc .vmem S512x1024 .f32) (h1 : M1.IsWhole) (M2 : Memref sig .tc .vmem S128x2048 .f32) (h2 : M2.IsWhole)
    (M3 : Memref sig .tc .vmem S128x128 .f32) (h3 : M3.IsWhole) (M4 : Memref sig .tc .vmem S1x128x1 .f32) (h4 : M4.IsWhole)
    (M5 : Memref sig .tc .vmem S128x1024 .f32) (h5 : M5.IsWhole) (M6 : Memref sig .tc .vmem S2048x1024 .f32) (h6 : M6.IsWhole)
    (M7 : Memref sig .tc .vmem S128x1024 .f32) (h7 : M7.IsWhole) (v4 : BitVec 32) (hc : k0_cond7 i = 1#1)
    (f3 : Bf (F := F) c M3) (f6 : Bf (F := F) c M6) (f7 : Bf (F := F) c M7) :
    iprop(pt c M3 f3 ∗ pt c M6 f6 ∗ pt c M7 f7) ⊢ wp frame (wpE (defs₀ (F := F)) Variants.none c none) Set.univ
      (k0_part30 i M1 h1 M2 h2 M3 h3 M4 h4 M5 h5 M6 h6 M7 h7 v4 hc)
      (fun _ => iprop(pt c M3 f3 ∗ (∃ f, pt c M6 f) ∗ pt c M7 f7)) := by
  iintro ⟨H3, H6, H7⟩
  sl_exec_parts!
  sl_step
  isplitl [H3]; · iexact H3
  isplitl [H6]; · iexists _; iexact H6
  iexact H7

/-- The whole body, at any grid point, from any contents of the buffers: it leaves the four operand blocks as they were,
    and the scratch arrays and the result's block at something. -/
theorem body_run (c : Dev nD) (t : Fin grid0.N)
    (M1 : Memref sig .tc .vmem S512x1024 .f32) (h1 : M1.IsWhole) (M2 : Memref sig .tc .vmem S128x2048 .f32) (h2 : M2.IsWhole)
    (M3 : Memref sig .tc .vmem S128x128 .f32) (h3 : M3.IsWhole) (M4 : Memref sig .tc .vmem S1x128x1 .f32) (h4 : M4.IsWhole)
    (M5 : Memref sig .tc .vmem S128x1024 .f32) (h5 : M5.IsWhole) (M6 : Memref sig .tc .vmem S2048x1024 .f32) (h6 : M6.IsWhole)
    (M7 : Memref sig .tc .vmem S128x1024 .f32) (h7 : M7.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) :
    iprop(pt c M1 f1 ∗ pt c M2 f2 ∗ pt c M3 f3 ∗ pt c M4 f4 ∗ pt c M5 f5 ∗ pt c M6 f6 ∗ pt c M7 f7)
      ⊢ wp frame (wpE (defs₀ (F := F)) Variants.none c none) Set.univ
      (cc0__dag_kernel (grid0.coords t) M1 h1 M2 h2 M3 h3 M4 h4 M5 h5 M6 h6 M7 h7)
      (fun _ => iprop(pt c M1 f1 ∗ pt c M2 f2 ∗ pt c M3 f3 ∗ pt c M4 f4 ∗ (∃ f, pt c M5 f) ∗ (∃ f, pt c M6 f) ∗ ∃ f, pt c M7 f)) := by
  have hcut := rows_run (F := F) c (grid0.coords t) M1 h1 M2 h2 M3 h3 M4 h4 M5 h5 M6 h6 M7 h7
  rcases fin_N0 t with rfl | rfl | rfl | rfl | rfl | rfl | rfl | rfl | rfl | rfl | rfl | rfl
  all_goals
    iintro ⟨H1, H2, H3, H4, H5, H6, H7⟩
    sl_exec (disch := decide)
    sl_step
    isplitl [H1]; · iexact H1
    isplitl [H2]; · iexact H2
    first
    | (isplitl [H3]; (· iexact H3))
    | (isplitl [Hk0_part30_0]; (· iexact Hk0_part30_0))
    isplitl [H4]; · iexact H4
    isplitl [H5]; · iexists _; iexact H5
    first
    | (isplitl [H6]; (· iexists _; iexact H6); iexists _; iexact H7)
    | (isplitl [Hk0_part30_1]; (· iexists _; iexact Hk0_part30_1); iexists _; iexact Hk0_part30_2)

end Cert.Kernel.Proof

end
-- ==== Proof.KernelFrame.lean ====
/-
  The frame claim of the kernel as printed for the machine: run from any memory, its three argument arrays end as they
  were and every semaphore counter at zero. The result's window is left unnamed; everything else is the library's launch
  over the body's run (`KernelBody.lean`).
-/
module

public import proofs.«01_k».proof.Proof.KernelBody
public import Idealize.ShloMosaic.Lib.Pipeline.FrameSuffix
public import Idealize.ShloMosaic.Lib.LaneScatter.Own

@[expose] public section

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref read at `X` is its buffer held at the contents that read `X`. -/
theorem pt_of_owns (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  have h1 := LaneScatter.owns_raw (Ix := Unit) (Name := ℕ) (U := UR sig nD τ) (Lvl := ℕ) (c : Thread nD τ) M h X
  unfold LaneScatter.raw at h1; rw [h.set_eq_univ] at h1; exact h1

/-- And back: the buffer at contents that read `X`. -/
theorem owns_of_pt (c : Dev nD) {sp : Space} {S : Shape} {e : EltTy} (M : Memref sig .tc sp S e) (h : M.IsWhole)
    {f : Bf (F := F) c M} {X : S.Idx → Elt F e} (hX : M.view.read (Elt F) f = X) :
    pt c M f ⊢ (owns (c : Thread nD τ) M fullShare X : sProp 𝕄) := by
  have h1 := LaneScatter.raw_owns (Ix := Unit) (Name := ℕ) (U := UR sig nD τ) (Lvl := ℕ) (c : Thread nD τ) M hX
  unfold LaneScatter.raw at h1; rw [h.set_eq_univ] at h1; exact h1

/-- The window whose contents go unnamed: the result's. -/
def forgets : Fin 5 → Bool := fun w => w == 4

/-- The proof data: the arrays as the region finds them, the operand blocks left in place, the result unnamed, the two
    scratch arrays held at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := Pipeline.ΦA spec0 c
  q w := Pipeline.shareOf spec0 w
  owed _ := 0

/-- The proof data's array under each window is the array that the region finds there. -/
theorem A_eq (c : Dev nD) (w : Fin cfg0.W) : (dats m 0 c).A w = V m c (Pipeline.arrRef spec0 w) := by dsimp only [dats]

/-- The body table's row at a grid point is the body on that point's buffers. -/
theorem defs₀_row (t : Fin cfg0.N) : defs₀ (F := F) .tc cfg0.body (cfg0.bodyArgs t (cfg0.slots t)) = bodyAt0 t := by
  unfold defs₀; rw [Defs.onTc_tc]

/-- What the body is called with at a point, and what it returns. -/
def around (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ ∃ X, owns (c : Thread nD τ) (st0_4 t) fullShare X)

/-- The body at a point, between the invariant and the invariant. -/
theorem sound_body (c : Dev nD) (t : Fin cfg0.N) :
    iprop(Pipeline.ΦA spec0 c ∗ (dats m 0 c).owesAt () t.castSucc ∗ around m c t)
      ⊢ wp frame (wpE (defs₀ (F := F)) Variants.none c none) Set.univ (bodyAt0 t)
        (fun _ => iprop(Pipeline.ΦA spec0 c ∗ (dats m 0 c).owesAt () t.succ ∗ around m c t)) := by
  rw [show (dats m 0 c).owesAt () t.succ = (dats m 0 c).owesAt () t.castSucc from rfl]
  unfold around Pipeline.ΦA
  rw [scopedRest0_eq]
  iintro ⟨⟨⟨⟨%f6, H6⟩, ⟨%f7, H7⟩⟩, Hg⟩, HO, H1, H2, H3, H4, ⟨%X5, H5⟩⟩
  ihave H1 := (pt_of_owns c (st0_0 t) (hstage0_0 _) _) $$ H1
  ihave H2 := (pt_of_owns c (st0_1 t) (hstage0_1 _) _) $$ H2
  ihave H3 := (pt_of_owns c (st0_2 t) (hstage0_2 _) _) $$ H3
  ihave H4 := (pt_of_owns c (st0_3 t) (hstage0_3 _) _) $$ H4
  ihave H5 := (pt_of_owns c (st0_4 t) (hstage0_4 _) _) $$ H5
  iapply (wp_wand_r frame (wpE (defs₀ (F := F)) Variants.none c none) Set.univ)
  isplitl [H1 H2 H3 H4 H5 H6 H7]
  · iapply (body_run c t _ _ _ _ _ _ _ _ _ _ _ _ _ _ _ _ _ _ _ f6 f7)
    isplitl [H1]; · iexact H1
    isplitl [H2]; · iexact H2
    isplitl [H3]; · iexact H3
    isplitl [H4]; · iexact H4
    isplitl [H5]; · iexact H5
    isplitl [H6]; · iexact H6
    iexact H7
  iintro %_ ⟨H1, H2, H3, H4, ⟨%g5, H5⟩, H6, H7⟩
  isplitl [H6 H7 Hg]
  · isplitr [Hg]
    · isplitl [H6]; · iexact H6
      iexact H7
    iexact Hg
  isplitl [HO]; · iexact HO
  isplitl [H1]; · iapply (owns_of_pt c (st0_0 t) (hstage0_0 _) (Memref.IsWhole.read_unread _ _)); iexact H1
  isplitl [H2]; · iapply (owns_of_pt c (st0_1 t) (hstage0_1 _) (Memref.IsWhole.read_unread _ _)); iexact H2
  isplitl [H3]; · iapply (owns_of_pt c (st0_2 t) (hstage0_2 _) (Memref.IsWhole.read_unread _ _)); iexact H3
  isplitl [H4]; · iapply (owns_of_pt c (st0_3 t) (hstage0_3 _) (Memref.IsWhole.read_unread _ _)); iexact H4
  iexists _; iapply (owns_of_pt c (st0_4 t) (hstage0_4 _) rfl); iexact H5

/-- The first operand's buffer at a grid point holds its block of the array. -/
theorem before0 (c : Dev nD) (t : Fin cfg0.N) (d) : (dats m 0 c).before 0 t d = iblk m c 0 t := before0_0_of m _ (A_eq m c 0) (fun _ => rfl) t d

/-- The second operand's buffer at a grid point holds its block of the array. -/
theorem before1 (c : Dev nD) (t : Fin cfg0.N) (d) : (dats m 0 c).before 1 t d = iblk m c 1 t := before0_1_of m _ (A_eq m c 1) (fun _ => rfl) t d

/-- The third operand's buffer at a grid point holds its block of the array. -/
theorem before2 (c : Dev nD) (t : Fin cfg0.N) (d) : (dats m 0 c).before 2 t d = iblk m c 2 t := before0_2_of m _ (A_eq m c 2) (fun _ => rfl) t d

/-- The fourth operand's buffer at a grid point holds its block of the array. -/
theorem before3 (c : Dev nD) (t : Fin cfg0.N) (d) : (dats m 0 c).before 3 t d = iblk m c 3 t := before0_3_of m _ (A_eq m c 3) (fun _ => rfl) t d

/-- The library's body obligation, the result's window unnamed. -/
theorem body_obligation (c : Dev nD) :
    BodyObligation (dats (F := F) m 0 c) (defs₀ (F := F)) Variants.none () Set.univ forgets := fun t => by
  rw [bigSep_W0, bigSep_W0, defs₀_row]
  refine triple_restated (sound_body m c t) rfl ?_ fun _ => .rfl
  show iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ ∃ X, owns (c : Thread nD τ) (st0_4 t) fullShare X) ⊢ _
  unfold around
  simp only [before0, before1, before2, before3]
  iintro ⟨HΦ, HO, ⟨%_, H1⟩, ⟨%_, H2⟩, ⟨%_, H3⟩, ⟨%_, H4⟩, H5⟩
  isplitl [HΦ]; · iexact HΦ
  isplitl [HO]; · iexact HO
  isplitl [H1]; · iexact H1
  isplitl [H2]; · iexact H2
  isplitl [H3]; · iexact H3
  isplitl [H4]; · iexact H4
  iexact H5

set_option backward.isDefEq.respectTransparency.types false in
/-- From any memory with zero counters, every run of the program ends with its three argument arrays as they were and every
    semaphore counter at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget_shared cfgs (dats m) 0 launch₀0 defs₀ Variants.none forgets {main_v4} m ρ main
    (hbody := fun c => (body_obligation m c).loose) (hq := fun _ _ _ => rfl) (howed := fun _ _ => rfl) (V₀ := V0 m) (opss := [hostOps1])
    (hsub := sfx_sub) (hfresh := sfx_fresh) (hkeep := sfx_keeps)
    (hT := by
      intro ops hops op hop b hb
      obtain rfl := List.mem_singleton.mp hops
      obtain rfl := List.mem_singleton.mp hop
      simp only [StableHlo.unary_writes, Finset.mem_singleton] at hb
      exact Finset.mem_singleton.mpr (by by_contra hne; exact StableHlo.devRef_ne_of_ne hne hb))
    (hmain := hmain m Variants.none) (hA := A_eq m) (hΦ := fun _ _ => rfl)
    (Q' := fun r => (∀ c : Dev nD, _ ∧ _ ∧ _) ∧ r.2.sem = fun _ => 0)
    (hQ' := fun r h => ⟨fun c =>
      ⟨((h.1 c).2 main_arg0 (Finset.mem_sdiff.mpr ⟨Pipeline.mem_restRefs_of main_arg0 (by decide) (by decide), by decide⟩)).trans (V_main_arg0 m c),
        (h.1.arr_in c 2 rfl).trans (V_main_arg1 m c),
        ((h.1 c).2 main_arg2 (Finset.mem_sdiff.mpr ⟨Pipeline.mem_restRefs_of main_arg2 (by decide) (by decide), by decide⟩)).trans (V_main_arg2 m c)⟩, h.2⟩)

end Cert.Kernel.Proof

end
-- ==== Proof.Groups.lean ====
/-
  The serial part of a grid point as sixteen groups of eight rows. The printed body writes the groups out one after
  the other; here one group is stated once, for a first row `lo`, and the printed stretch is shown to be the sixteen
  groups in a row.
-/
module

public import proofs.«01_k».proof.Proof.Gen.KernelIdeal.Skeleton
public import proofs.«01_k».proof.Proof.Gen.KernelIdeal.Frame
public import Idealize.ShloMosaic.Lib.Tactic

@[expose] public section

noncomputable section

namespace Cert.KernelIdeal.Proof

open Cert.KernelIdeal Cert.KernelIdeal.Gen
open Idealize.ShloMosaic Idealize.ShloMosaic.TcCoe Idealize.ShloMosaic.Tactic
open Idealize.SL.Sem

variable {F : FTy → Type} [FloatOps F]

/-- An array of `a` rows and `b` columns. -/
abbrev mat (a b : ℕ) : Shape := ⟨2, ![a, b]⟩

/-- A block of a matrix that fits is a slice of it. -/
theorem slices_mat {a b c d p q : ℕ} (h₁ : p + c ≤ a) (h₂ : q + d ≤ b) : (mat a b).Slices ![p, q] (mat c d) :=
  ⟨rfl, fun x => by fin_cases x <;> assumption⟩

/-- A block of a matrix that fits is a rectangle of it. -/
theorem inb_mat {a b c d p q : ℕ} (h₁ : p + c ≤ a) (h₂ : q + d ≤ b) :
    ∀ x, (![p, q] : Fin 2 → ℕ) x + (mat c d).size x ≤ (mat a b).size x :=
  fun x => by fin_cases x <;> assumption

/-- A matrix with rows and columns has elements. -/
theorem mat_pos {a b : ℕ} (ha : 0 < a) (hb : 0 < b) : 0 < (mat a b).numel := by
  simp only [Shape.numel, Fin.prod_univ_two]
  exact Nat.mul_pos ha hb

/-- The node values of row `k` of a group: `tanh` of the row. -/
def emit (k : ℕ) (h : k < 8) (z : FVec F S8x1024 .f32) : FVec F S1x1024 .f32 :=
  tanh (extractStridedSlice S1x1024 ![k, 0] z (slices_mat (by omega) (by omega)))

/-- Eight rows plus, in each, a weight times the values `r`: the weights are column `k` of `w` from row `o`. -/
def addCol {n : ℕ} (o k : ℕ) (ho : o + 8 ≤ n) (hk : k < 8) (w : Vec F (mat n 8) .f32) (z : FVec F S8x1024 .f32)
    (r : FVec F S1x1024 .f32) : FVec F S8x1024 .f32 :=
  addf z (mulf
    (broadcastTo S8x1024 (extractStridedSlice S8x1 ![o, k] w (slices_mat ho (by omega))) broadcasts_S8x1_S8x1024)
    (broadcastTo S8x1024 r broadcasts_S1x1024_S8x1024))

/-- The group's rows before row `k` is read: rows `0, …, k - 1` have been added. -/
def zs {n : ℕ} (hn : 0 + 8 ≤ n) (w : Vec F (mat n 8) .f32) (z : FVec F S8x1024 .f32) : (k : ℕ) → k < 8 → FVec F S8x1024 .f32
  | 0, _ => z
  | k + 1, h => addCol 0 k hn (by omega) w (zs hn w z k (by omega)) (emit k (by omega) (zs hn w z k (by omega)))

/-- The next group's rows after rows `0, …, k - 1` of this group have been added. -/
def zns (w : Vec F (mat 16 8) .f32) (z zn : FVec F S8x1024 .f32) : (k : ℕ) → k < 9 → FVec F S8x1024 .f32
  | 0, _ => zn
  | k + 1, h => addCol 8 k (by omega) (by omega) w (zns w z zn k (by omega))
      (emit k (by omega) (zs (by omega) w z k (by omega)))

/-- Row `k` of the node values of a group. -/
def valRow {n : ℕ} (hn : 0 + 8 ≤ n) (w : Vec F (mat n 8) .f32) (z : FVec F S8x1024 .f32) (k : ℕ) (hk : k < 8) :
    FVec F S1x1024 .f32 := emit k hk (zs hn w z k hk)

/-- The node values of a group, as they are stored. -/
def vals {n : ℕ} (hn : 0 + 8 ≤ n) (w : Vec F (mat n 8) .f32) (z : FVec F S8x1024 .f32) : FVec F S8x1024 .f32 :=
  shapeCast S8x1024 (concatenate S8x1024 0
    [⟨S1x1024, valRow hn w z 0 (by omega)⟩, ⟨S1x1024, valRow hn w z 1 (by omega)⟩,
     ⟨S1x1024, valRow hn w z 2 (by omega)⟩, ⟨S1x1024, valRow hn w z 3 (by omega)⟩,
     ⟨S1x1024, valRow hn w z 4 (by omega)⟩, ⟨S1x1024, valRow hn w z 5 (by omega)⟩,
     ⟨S1x1024, valRow hn w z 6 (by omega)⟩, ⟨S1x1024, valRow hn w z 7 (by omega)⟩]
    concatenates_S1x1024_S1x1024_S1x1024_S1x1024_S1x1024_S1x1024_S1x1024_S1x1024_S8x1024_d0) shapeCasts_S8x1024_S8x1024

/-- The start of the next group's rows: what the earlier groups of this block add to them. -/
def nextRows (lo : ℕ) (zn : Vec F S8x1024 .f32) (w : Vec F (mat 8 lo) .f32) (a : Vec F (mat lo 1024) .f32) :
    FVec F S8x1024 .f32 :=
  addf zn (matmul (DotDims.plain 8 lo 1024) none w a (constant S8x1024 .f32 0x00000000#32))

section Program

variable (i : grid0.Coords) (M3 : Memref sig .tc .vmem S128x128 .f32) (M6 : Memref sig .tc .vmem S2048x1024 .f32)
  (M7 : Memref sig .tc .vmem S128x1024 .f32) (h7 : k0_cond7 i = 1#1)

/-- A group's eight rows lie in the array of node values. -/
theorem off1_inb (h7 : k0_cond7 i = 1#1) {lo : ℕ} (h : lo % 8 = 0 ∧ lo < 128) :
    ∀ a, (k0_off1 i (BitVec.ofNat 32 lo)) a + S8x1024.size a ≤ S2048x1024.size a := by
  have := k0_off1_inb i h7 ⟨lo / 8, by omega⟩
  have h8 : 8 * (lo / 8) = lo := by omega
  simpa only [h8] using this

/-- The block's first `lo` rows lie in the array of node values. -/
theorem off2_inb (h7 : k0_cond7 i = 1#1) {lo : ℕ} (h : lo ≤ 112) :
    ∀ a, (k0_off2 i) a + (mat lo 1024).size a ≤ S2048x1024.size a := by
  intro a
  have := k0_off15_inb i h7 a
  fin_cases a
  · have h2 : k0_off2 i 0 + 112 ≤ 2048 := this
    change k0_off2 i 0 + lo ≤ 2048
    omega
  · exact this

/-- Store a group's values in its eight rows. -/
def storeRows (lo : ℕ) (h : lo % 8 = 0 ∧ lo < 128) (v : FVec F S8x1024 .f32) :
    Prog (TpuEff nD τ sig (Elt F) Λ₀ .tc) PUnit := do
  let _ : Vec F S8x1024 .f32 ← Prog.lift (.load M6 (Rect.unit (s := S2048x1024) (k0_off1 i (BitVec.ofNat 32 lo)) S8x1024.size (off1_inb i h7 h)).toLoadRect (View.loadsAt_vmem h_S8x1024))
  Prog.lift (.store M6 (Rect.unit (s := S2048x1024) (k0_off1 i (BitVec.ofNat 32 lo)) S8x1024.size (off1_inb i h7 h)) v Finset.univ (View.stores_vmem_bits_univ h_S8x1024 rfl) (.inl rfl))

/-- Load eight rows of the pre-activations. -/
def loadZ (lo : ℕ) (h : lo % 8 = 0 ∧ lo < 128) : Prog (TpuEff nD τ sig (Elt F) Λ₀ .tc) (Vec F S8x1024 .f32) :=
  Prog.lift (.load M7 (Rect.unit (s := S128x1024) ![lo, 0] S8x1024.size (inb_mat (by omega) (by omega))).toLoadRect (View.loadsAt_vmem h_S8x1024))

/-- The first group: its rows and the next group's as they were left, and the step. -/
def firstGroup : Prog (TpuEff nD τ sig (Elt F) Λ₀ .tc) (FVec F S8x1024 .f32) := do
  let z : Vec F S8x1024 .f32 ← loadZ M7 0 (by omega)
  let zn : Vec F S8x1024 .f32 ← loadZ M7 8 (by omega)
  let w : Vec F (mat 16 8) .f32 ← Prog.lift (.load M3 (Rect.unit (s := S128x128) ![0, 0] S16x8.size (inb_mat (by omega) (by omega))).toLoadRect (View.loadsAt_vmem h_S16x8))
  storeRows i M6 h7 0 (by omega) (vals (by omega) w z)
  pure (zns w z zn 8 (by omega))

/-- A group in the middle: the next group's rows with what the earlier groups add to them, and the step. -/
def midGroup (lo : ℕ) (h : lo % 8 = 0 ∧ 0 < lo ∧ lo < 120) (z : FVec F S8x1024 .f32) :
    Prog (TpuEff nD τ sig (Elt F) Λ₀ .tc) (FVec F S8x1024 .f32) := do
  let zn : Vec F S8x1024 .f32 ← loadZ M7 (lo + 8) (by omega)
  let wl : Vec F (mat 8 lo) .f32 ← Prog.lift (.load M3 (Rect.unit (s := S128x128) ![lo + 8, 0] (mat 8 lo).size (inb_mat (by omega) (by omega))).toLoadRect (View.loadsAt_vmem (mat_pos (by omega) (by omega))))
  let a : Vec F (mat lo 1024) .f32 ← Prog.lift (.load M6 (Rect.unit (s := S2048x1024) (k0_off2 i) (mat lo 1024).size (off2_inb i h7 (by omega))).toLoadRect (View.loadsAt_vmem (mat_pos (by omega) (by omega))))
  let w : Vec F (mat 16 8) .f32 ← Prog.lift (.load M3 (Rect.unit (s := S128x128) ![lo, lo] S16x8.size (inb_mat (by omega) (by omega))).toLoadRect (View.loadsAt_vmem h_S16x8))
  storeRows i M6 h7 lo (by omega) (vals (by omega) w z)
  pure (zns w z (nextRows lo zn wl a) 8 (by omega))

/-- The last group. -/
def lastGroup (z : FVec F S8x1024 .f32) : Prog (TpuEff nD τ sig (Elt F) Λ₀ .tc) PUnit := do
  let w : Vec F (mat 8 8) .f32 ← Prog.lift (.load M3 (Rect.unit (s := S128x128) ![120, 120] S8x8.size (inb_mat (by omega) (by omega))).toLoadRect (View.loadsAt_vmem h_S8x8))
  storeRows i M6 h7 120 (by omega) (vals (by omega) w z)

/-- The sixteen groups in a row. -/
def groups : Prog (TpuEff nD τ sig (Elt F) Λ₀ .tc) PUnit := do
  let z ← firstGroup i M3 M6 M7 h7
  let z ← midGroup i M3 M6 M7 h7 8 (by omega) z
  let z ← midGroup i M3 M6 M7 h7 16 (by omega) z
  let z ← midGroup i M3 M6 M7 h7 24 (by omega) z
  let z ← midGroup i M3 M6 M7 h7 32 (by omega) z
  let z ← midGroup i M3 M6 M7 h7 40 (by omega) z
  let z ← midGroup i M3 M6 M7 h7 48 (by omega) z
  let z ← midGroup i M3 M6 M7 h7 56 (by omega) z
  let z ← midGroup i M3 M6 M7 h7 64 (by omega) z
  let z ← midGroup i M3 M6 M7 h7 72 (by omega) z
  let z ← midGroup i M3 M6 M7 h7 80 (by omega) z
  let z ← midGroup i M3 M6 M7 h7 88 (by omega) z
  let z ← midGroup i M3 M6 M7 h7 96 (by omega) z
  let z ← midGroup i M3 M6 M7 h7 104 (by omega) z
  let z ← midGroup i M3 M6 M7 h7 112 (by omega) z
  lastGroup i M3 M6 h7 z

end Program

/-- The serial stretch as it is printed. -/
def serial (i : grid0.Coords) (arg1 : Memref sig .tc .vmem S512x1024 .f32) (harg1 : arg1.IsWhole)
    (arg2 : Memref sig .tc .vmem S128x2048 .f32) (harg2 : arg2.IsWhole) (arg3 : Memref sig .tc .vmem S128x128 .f32)
    (harg3 : arg3.IsWhole) (arg4 : Memref sig .tc .vmem S1x128x1 .f32) (harg4 : arg4.IsWhole)
    (arg5 : Memref sig .tc .vmem S128x1024 .f32) (harg5 : arg5.IsWhole) (arg6 : Memref sig .tc .vmem S2048x1024 .f32)
    (harg6 : arg6.IsWhole) (arg7 : Memref sig .tc .vmem S128x1024 .f32) (harg7 : arg7.IsWhole) (v4 : BitVec 32)
    (k0_h7 : k0_cond7 i = 1#1) : Prog (TpuEff nD τ sig (Elt F) Λ₀ .tc) PUnit := do
  let ⟨v1596, v1603, v1610, v1617, v1624, v1631, v1638, v1643⟩ ← k0_part30 (F := F) i arg1 harg1 arg2 harg2 arg3 harg3 arg4 harg4 arg5 harg5 arg6 harg6 arg7 harg7 v4 k0_h7
  let _ : Vec F S8x1024 .f32 ← Prog.lift (.load arg6 (Rect.unit (s := S2048x1024) (k0_off1 i 120#32) S8x1024.size (k0_off1_inb i k0_h7 15)).toLoadRect (View.loadsAt_vmem h_S8x1024))
  Prog.lift (.store arg6 (Rect.unit (s := S2048x1024) (k0_off1 i 120#32) S8x1024.size (k0_off1_inb i k0_h7 15)) (k0_pay2 v1596 v1603 v1610 v1617 v1624 v1631 v1638 v1643) Finset.univ (View.stores_vmem_bits_univ h_S8x1024 rfl) (.inl rfl))

/-- The serial stretch as it is printed, and then `k`. -/
def serialThen (i : grid0.Coords) (arg1 : Memref sig .tc .vmem S512x1024 .f32) (harg1 : arg1.IsWhole)
    (arg2 : Memref sig .tc .vmem S128x2048 .f32) (harg2 : arg2.IsWhole) (arg3 : Memref sig .tc .vmem S128x128 .f32)
    (harg3 : arg3.IsWhole) (arg4 : Memref sig .tc .vmem S1x128x1 .f32) (harg4 : arg4.IsWhole)
    (arg5 : Memref sig .tc .vmem S128x1024 .f32) (harg5 : arg5.IsWhole) (arg6 : Memref sig .tc .vmem S2048x1024 .f32)
    (harg6 : arg6.IsWhole) (arg7 : Memref sig .tc .vmem S128x1024 .f32) (harg7 : arg7.IsWhole) (v4 : BitVec 32)
    (k0_h7 : k0_cond7 i = 1#1) (k : Prog (TpuEff nD τ sig (Elt F) Λ₀ .tc) PUnit) : Prog (TpuEff nD τ sig (Elt F) Λ₀ .tc) PUnit := do
  let ⟨v1596, v1603, v1610, v1617, v1624, v1631, v1638, v1643⟩ ← k0_part30 (F := F) i arg1 harg1 arg2 harg2 arg3 harg3 arg4 harg4 arg5 harg5 arg6 harg6 arg7 harg7 v4 k0_h7
  let _ : Vec F S8x1024 .f32 ← Prog.lift (.load arg6 (Rect.unit (s := S2048x1024) (k0_off1 i 120#32) S8x1024.size (k0_off1_inb i k0_h7 15)).toLoadRect (View.loadsAt_vmem h_S8x1024))
  Prog.lift (.store arg6 (Rect.unit (s := S2048x1024) (k0_off1 i 120#32) S8x1024.size (k0_off1_inb i k0_h7 15)) (k0_pay2 v1596 v1603 v1610 v1617 v1624 v1631 v1638 v1643) Finset.univ (View.stores_vmem_bits_univ h_S8x1024 rfl) (.inl rfl))
  k

/-- The printed stretch and then `k` is the stretch, then `k`. -/
theorem serialThen_eq (i : grid0.Coords) (arg1 : Memref sig .tc .vmem S512x1024 .f32) (harg1 : arg1.IsWhole)
    (arg2 : Memref sig .tc .vmem S128x2048 .f32) (harg2 : arg2.IsWhole) (arg3 : Memref sig .tc .vmem S128x128 .f32)
    (harg3 : arg3.IsWhole) (arg4 : Memref sig .tc .vmem S1x128x1 .f32) (harg4 : arg4.IsWhole)
    (arg5 : Memref sig .tc .vmem S128x1024 .f32) (harg5 : arg5.IsWhole) (arg6 : Memref sig .tc .vmem S2048x1024 .f32)
    (harg6 : arg6.IsWhole) (arg7 : Memref sig .tc .vmem S128x1024 .f32) (harg7 : arg7.IsWhole) (v4 : BitVec 32)
    (k0_h7 : k0_cond7 i = 1#1) (k : Prog (TpuEff nD τ sig (Elt F) Λ₀ .tc) PUnit) :
    serialThen (F := F) i arg1 harg1 arg2 harg2 arg3 harg3 arg4 harg4 arg5 harg5 arg6 harg6 arg7 harg7 v4 k0_h7 k
      = serial (F := F) i arg1 harg1 arg2 harg2 arg3 harg3 arg4 harg4 arg5 harg5 arg6 harg6 arg7 harg7 v4 k0_h7 >>= fun _ => k := by
  unfold serialThen serial
  rw [bind_assoc]
  rfl

set_option maxRecDepth 65536 in
/-- The printed serial stretch is the sixteen groups in a row. -/
theorem serial_eq (i : grid0.Coords) (arg1 : Memref sig .tc .vmem S512x1024 .f32) (harg1 : arg1.IsWhole)
    (arg2 : Memref sig .tc .vmem S128x2048 .f32) (harg2 : arg2.IsWhole) (arg3 : Memref sig .tc .vmem S128x128 .f32)
    (harg3 : arg3.IsWhole) (arg4 : Memref sig .tc .vmem S1x128x1 .f32) (harg4 : arg4.IsWhole)
    (arg5 : Memref sig .tc .vmem S128x1024 .f32) (harg5 : arg5.IsWhole) (arg6 : Memref sig .tc .vmem S2048x1024 .f32)
    (harg6 : arg6.IsWhole) (arg7 : Memref sig .tc .vmem S128x1024 .f32) (harg7 : arg7.IsWhole) (v4 : BitVec 32)
    (k0_h7 : k0_cond7 i = 1#1) :
    serial (F := F) i arg1 harg1 arg2 harg2 arg3 harg3 arg4 harg4 arg5 harg5 arg6 harg6 arg7 harg7 v4 k0_h7
    = groups i arg3 arg6 arg7 k0_h7 := rfl

end Cert.KernelIdeal.Proof
-- ==== Proof.Act.lean ====
/-
  The value of a node, as mathematics: node `r` of a graph whose first 512 nodes are inputs is `tanh` of its bias plus
  the weighted sum of the nodes before it, of which only the first `top` are read.
-/
module

public import Idealize.ShloMosaic.PureOps.Ideal
public import Mathlib.Algebra.BigOperators.Fin

@[expose] public section

noncomputable section

namespace Cert.Dag

open Idealize.ShloMosaic

/-- Weights, biases and inputs at any numbers; node `r` reads the nodes before `r` and before `top`. -/
structure Net where
  w : ℕ → ℕ → EReal
  b : ℕ → EReal
  x : ℕ → ℕ → EReal
  top : ℕ

/-- The value of node `r` at batch entry `β`. -/
def act (N : Net) (β r : ℕ) : EReal :=
  if r < 512 then N.x r β else Ideal.tanh (N.b r + ∑ j : Fin (min r N.top), N.w r j.val * act N β j.val)
termination_by r
decreasing_by have := j.isLt; omega

/-- The bias of node `r` plus what the first `n` nodes add to it. -/
def pre (N : Net) (n r β : ℕ) : EReal := N.b r + ∑ j ∈ Finset.range n, N.w r j * act N β j

/-- An input's value is the input. -/
theorem act_input (N : Net) {β r : ℕ} (h : r < 512) : act N β r = N.x r β := by
  rw [act, if_pos h]

/-- A node past the inputs is `tanh` of the sum over the nodes it reads. -/
theorem act_node (N : Net) {β r : ℕ} (h : 512 ≤ r) : act N β r = Ideal.tanh (pre N (min r N.top) r β) := by
  rw [act, if_neg (by omega), pre, Finset.sum_range]

/-- One more node in the sum. -/
theorem pre_succ (N : Net) (n r β : ℕ) : pre N (n + 1) r β = pre N n r β + N.w r n * act N β n := by
  rw [pre, pre, Finset.sum_range_succ, add_assoc]

/-- `m` more nodes in the sum. -/
theorem pre_add (N : Net) (n m r β : ℕ) :
    pre N (n + m) r β = pre N n r β + ∑ j ∈ Finset.range m, N.w r (n + j) * act N β (n + j) := by
  rw [pre, pre, Finset.sum_range_add, add_assoc]

/-- The node values of the first `n` nodes, and zero after. -/
def upTo (N : Net) (n r β : ℕ) : EReal := if r < n then act N β r else 0

/-- Of the first `n` nodes, the value is there. -/
theorem upTo_of_lt (N : Net) {n r β : ℕ} (h : r < n) : upTo N n r β = act N β r := if_pos h

/-- Past the first `n` nodes, there is zero. -/
theorem upTo_of_le (N : Net) {n r β : ℕ} (h : n ≤ r) : upTo N n r β = 0 := if_neg (by omega)

/-- A sum over `m` columns of which only the first `n` node values are there is the sum over those. -/
theorem sum_upTo (N : Net) {n m : ℕ} (h : n ≤ m) (r β : ℕ) :
    ∑ j ∈ Finset.range m, N.w r j * upTo N n j β = ∑ j ∈ Finset.range n, N.w r j * act N β j := by
  obtain ⟨k, rfl⟩ := Nat.exists_eq_add_of_le h
  rw [Finset.sum_range_add, Finset.sum_congr rfl (g := fun j => N.w r j * act N β j)
    (fun j hj => by rw [upTo_of_lt N (Finset.mem_range.mp hj)]),
    Finset.sum_eq_zero (s := Finset.range k) (fun j _ => by rw [upTo_of_le N (by omega), mul_zero]), add_zero]

end Cert.Dag
-- ==== Proof.GroupValues.lean ====
/-
  What one group of eight rows computes, on the extended reals: its stored rows are the node values, and what it hands
  to the next group is the next group's sums over all the nodes before it.
-/
module

public import proofs.«01_k».proof.Proof.Groups
public import proofs.«01_k».proof.Proof.Act
public import Idealize.ShloMosaic.Lib.Pointwise
public import Idealize.ShloMosaic.Lib.Pointwise.IndexVar
public import Idealize.ShloMosaic.Lib.MatmulPlain

@[expose] public section

noncomputable section

namespace Cert.KernelIdeal.Proof

open Cert.KernelIdeal Cert.KernelIdeal.Gen Cert.Dag
open Idealize.ShloMosaic Idealize.ShloMosaic.TcCoe

/-- The matrix whose entry at row `p` and column `q` is `f p q`. -/
def tab (a b : ℕ) (f : ℕ → ℕ → EReal) : FVec Ideal (mat a b) .f32 := fun y => f (y 0).val (y 1).val

/-- Row `k` of a group, after `tanh`, as a table. -/
theorem emit_tab (k : ℕ) (h : k < 8) (f : ℕ → ℕ → EReal) :
    emit (F := Ideal) k h (tab 8 1024 f) = tab 1 1024 fun p q => Ideal.tanh (f (k + p) q) := by
  funext y
  rw [eq_ix2 y]
  pointwise [emit, tab]

/-- Adding a finished row, times its column of weights, to eight rows' sums, as a table. -/
theorem addCol_tab {n : ℕ} (o k : ℕ) (ho : o + 8 ≤ n) (hk : k < 8) (fw f r : ℕ → ℕ → EReal) :
    addCol (F := Ideal) o k ho hk (tab n 8 fw) (tab 8 1024 f) (tab 1 1024 r)
      = tab 8 1024 fun p q => f p q + fw (o + p) k * r 0 q := by
  funext y
  rw [eq_ix2 y]
  pointwise [addCol, tab]

/-- A product onto zeros is the sum of products. -/
theorem matmul_tab (M K N : ℕ) (f g : ℕ → ℕ → EReal) :
    matmul (F := Ideal) (DotDims.plain M K N) none (tab M K f) (tab K N g) (constant (mat M N) .f32 0x00000000#32)
      = tab M N fun p q => ∑ j ∈ Finset.range K, f p j * g j q := by
  funext y
  have hy : y = ValueIdx.ix2 (y 0) (y 1) := ValueIdx.eq_ix2 y
  rw [hy]
  refine (Ideal.matmul_plain_apply none _ _ _ _ _).trans ?_
  exact ((congrArg (· + _) Ideal.ofBits_zero_f32).trans (zero_add _)).trans
    (Finset.sum_range fun j => f (y 0).val j * g j (y 1).val).symm

/-- The next group's sums after the product with the block's `lo` rows already done, as a table. -/
theorem nextRows_tab (lo : ℕ) (f fw fa : ℕ → ℕ → EReal) :
    nextRows (F := Ideal) lo (tab 8 1024 f) (tab 8 lo fw) (tab lo 1024 fa)
      = tab 8 1024 fun p q => f p q + ∑ j ∈ Finset.range lo, fw p j * fa j q := by
  rw [nextRows, matmul_tab]
  rfl

/-- If each of a group's eight rows is known, so is the group's block of rows. -/
theorem vals_tab {n : ℕ} (hn : 0 + 8 ≤ n) (w : Vec Ideal (mat n 8) .f32) (z : FVec Ideal S8x1024 .f32) (g : ℕ → ℕ → EReal)
    (h : ∀ k hk, valRow hn w z k hk = tab 1 1024 fun _ q => g k q) :
    vals (F := Ideal) hn w z = tab 8 1024 g := by
  funext y
  rw [eq_ix2 y]
  pointwise [vals]
  fin_vals (y 0) with hy
  all_goals simp only [hy, Nat.reduceSub, Nat.reduceLT, ↓reduceDIte, h, tab]
  all_goals rfl

section Net

variable (N : Net) (r lo : ℕ)

/-- The rows of a group, before its row `k` is read: the group begins at node `r`, its weights are those of the diagonal
    block. -/
theorem zs_tab {n : ℕ} (hn : 0 + 8 ≤ n) (hr : 512 ≤ r) (ht : r + 8 ≤ N.top) (k : ℕ) (hk : k < 8) :
    zs (F := Ideal) hn (tab n 8 fun p q => N.w (r + p) (r + q)) (tab 8 1024 fun p q => pre N r (r + p) q) k hk
        = tab 8 1024 (fun p q => pre N (r + k) (r + p) q)
      ∧ valRow (F := Ideal) hn (tab n 8 fun p q => N.w (r + p) (r + q)) (tab 8 1024 fun p q => pre N r (r + p) q) k hk
        = tab 1 1024 fun _ q => act N q (r + k) := by
  have row : ∀ k hk, zs (F := Ideal) hn (tab n 8 fun p q => N.w (r + p) (r + q)) (tab 8 1024 fun p q => pre N r (r + p) q) k hk
        = tab 8 1024 (fun p q => pre N (r + k) (r + p) q) →
      valRow (F := Ideal) hn (tab n 8 fun p q => N.w (r + p) (r + q)) (tab 8 1024 fun p q => pre N r (r + p) q) k hk
        = tab 1 1024 fun _ q => act N q (r + k) := by
    intro k hk h
    rw [valRow, h, emit_tab]
    funext y
    have hy : (y 0).val = 0 := by have := (y 0).isLt; change _ < 1 at this; omega
    simp only [tab, hy, Nat.add_zero]
    rw [act_node N (by omega), min_eq_left (by omega)]
  induction k with
  | zero => exact ⟨rfl, row 0 hk rfl⟩
  | succ k ih =>
    obtain ⟨h1, h2⟩ := ih (by omega)
    have h : zs (F := Ideal) hn (tab n 8 fun p q => N.w (r + p) (r + q)) (tab 8 1024 fun p q => pre N r (r + p) q) (k + 1) hk
        = tab 8 1024 (fun p q => pre N (r + (k + 1)) (r + p) q) := by
      rw [zs, ← valRow, h1, h2, addCol_tab]
      simp only [← Nat.add_assoc, pre_succ, Nat.zero_add]
    exact ⟨h, row _ _ h⟩

/-- The rows a group stores are its nodes' values. -/
theorem vals_net {n : ℕ} (hn : 0 + 8 ≤ n) (hr : 512 ≤ r) (ht : r + 8 ≤ N.top) :
    vals (F := Ideal) hn (tab n 8 fun p q => N.w (r + p) (r + q)) (tab 8 1024 fun p q => pre N r (r + p) q)
      = tab 8 1024 fun p q => act N q (r + p) :=
  vals_tab hn _ _ (fun p q => act N q (r + p)) fun k hk => (zs_tab N r hn hr ht k hk).2

/-- The rows a group hands on, the next group's, have the group's nodes added. -/
theorem zns_net (hr : 512 ≤ r) (ht : r + 8 ≤ N.top) (k : ℕ) (hk : k < 9) :
    zns (F := Ideal) (tab 16 8 fun p q => N.w (r + p) (r + q)) (tab 8 1024 fun p q => pre N r (r + p) q)
        (tab 8 1024 fun p q => pre N r (r + 8 + p) q) k hk
      = tab 8 1024 fun p q => pre N (r + k) (r + 8 + p) q := by
  induction k with
  | zero => rfl
  | succ k ih =>
    rw [zns, ← valRow, ih, (zs_tab N r (by omega) hr ht k (by omega)).2, addCol_tab]
    simp only [← Nat.add_assoc, pre_succ]

/-- The next group's rows, with what the earlier groups of the block add: the block begins at node `s`. -/
theorem nextRows_net (s : ℕ) :
    nextRows (F := Ideal) lo (tab 8 1024 fun p q => pre N s (s + (lo + 8) + p) q)
        (tab 8 lo fun p q => N.w (s + (lo + 8) + p) (s + q)) (tab lo 1024 fun p q => act N q (s + p))
      = tab 8 1024 fun p q => pre N (s + lo) (s + lo + 8 + p) q := by
  rw [nextRows_tab]
  simp only [pre_add, Nat.add_assoc]

end Net

end Cert.KernelIdeal.Proof
-- ==== Proof.GroupRun.lean ====
/-
  One group of eight rows, run: from the node values of the nodes before it and the pre-activations of the block, it
  leaves the node values of its eight nodes as well.
-/
module

public import proofs.«01_k».proof.Proof.GroupValues
public import Idealize.ShloMosaic.Lib.WritesUnit

@[expose] public section

noncomputable section

namespace Cert.KernelIdeal.Proof

open Cert.KernelIdeal Cert.KernelIdeal.Gen Cert.Dag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The contents of a memref's buffer on core `c`. -/
abbrev Bf (c : Dev nD) {sp : Space} {S : Shape} {e : EltTy} (M : Memref sig .tc sp S e) : Type := Buf (Elt Ideal) (M.view.loc (c : Thread nD τ))
/-- That buffer held whole, at `f`. -/
abbrev pt (c : Dev nD) {sp : Space} {S : Shape} {e : EltTy} (M : Memref sig .tc sp S e) (f : Bf c M) : sProp 𝕄 :=
  M.view.loc (c : Thread nD τ) ↦{fullShare} f
/-- That buffer held whole, at contents that read `X`. -/
def holds (c : Dev nD) {sp : Space} {S : Shape} {e : EltTy} (M : Memref sig .tc sp S e) (X : S.Idx → Elt Ideal e) : sProp 𝕄 :=
  iprop(∃ f : Bf c M, ⌜M.view.read (Elt Ideal) f = X⌝ ∗ pt c M f)

/-- A block of a matrix, loaded. -/
theorem load_tab {a b c d o o' : ℕ} (M : Memref sig .tc .vmem (mat a b) .f32) (f : M.view.ty.Contents (Elt Ideal)) {g : ℕ → ℕ → EReal}
    (hf : M.view.read (Elt Ideal) f = tab a b g) {off : Fin 2 → ℕ} (ho : off = ![o, o'])
    (inb : ∀ x, off x + (mat c d).size x ≤ (mat a b).size x) :
    View.readAt (Elt Ideal) M.view (Rect.unit (s := mat a b) off (mat c d).size inb).toLoadRect f
      = tab c d fun p q => g (o + p) (o' + q) := by
  subst ho
  funext x
  refine (congrFun hf ((Rect.unit (s := mat a b) ![o, o'] (mat c d).size inb).toLoadRect.idx x)).trans ?_
  pointwise [tab]

/-- Eight rows of a matrix of full rows, stored. -/
theorem store_tab {a b c o : ℕ} (M : Memref sig .tc .vmem (mat a b) .f32) (f : M.view.ty.Contents (Elt Ideal)) {g v : ℕ → ℕ → EReal}
    (hf : M.view.read (Elt Ideal) f = tab a b g) {off : Fin 2 → ℕ} (ho : off = ![o, 0])
    (inb : ∀ x, off x + (mat c b).size x ≤ (mat a b).size x) :
    M.view.read (Elt Ideal) (M.view.writes (Elt Ideal) f [⟨Rect.unit (s := mat a b) off (mat c b).size inb, tab c b v⟩])
      = tab a b fun p q => if o ≤ p ∧ p < o + c then v (p - o) q else g p q := by
  funext y
  rw [View.read_writes_cons_rows (W := c) M.view f inb _ [] y ho rfl rfl, View.writes_nil, hf]
  by_cases h : o ≤ (y 0).val ∧ (y 0).val < o + c
  · rw [dif_pos h]
    simp only [tab, if_pos h, Rect.unitLocal_val]
    rfl
  · rw [dif_neg h]
    simp only [tab, if_neg h]

/-- The first node of the block that grid point `i` computes. -/
def nodeAt (i : grid0.Coords) : ℕ := 512 + 128 * (i 0).val

/-- Where a group's eight rows start in the array of node values. -/
theorem off1_eq (i : grid0.Coords) {lo : ℕ} (h : lo < 128) : k0_off1 i (BitVec.ofNat 32 lo) = ![nodeAt i + lo, 0] := by
  have := (i 0).isLt
  change _ < 12 at this
  have hv : (Scalar.addi (Scalar.addi 512#32 (Scalar.muli (BitVec.ofNat 32 (i 0).val) 128#32)) (BitVec.ofNat 32 lo) : BitVec 32).toNat = nodeAt i + lo := by
    change ((512#32 + BitVec.ofNat 32 (i 0).val * 128#32) + BitVec.ofNat 32 lo).toNat = _
    rw [nodeAt]
    simp only [BitVec.toNat_add, BitVec.toNat_mul, BitVec.toNat_ofNat]
    omega
  exact congrArg (fun n => ![n, 0]) hv

/-- Where the block's rows start in the array of node values. -/
theorem off2_eq (i : grid0.Coords) : k0_off2 i = ![nodeAt i, 0] := by
  have := (i 0).isLt
  change _ < 12 at this
  have hv : (Scalar.addi 512#32 (Scalar.muli (BitVec.ofNat 32 (i 0).val) 128#32) : BitVec 32).toNat = nodeAt i := by
    change (512#32 + BitVec.ofNat 32 (i 0).val * 128#32).toNat = _
    rw [nodeAt]
    simp only [BitVec.toNat_add, BitVec.toNat_mul, BitVec.toNat_ofNat]
    omega
  exact congrArg (fun n => ![n, 0]) hv

variable (c : Dev nD) (i : grid0.Coords) (M3 : Memref sig .tc .vmem S128x128 .f32) (M6 : Memref sig .tc .vmem S2048x1024 .f32)
  (M7 : Memref sig .tc .vmem S128x1024 .f32) (hM3 : M3.IsWhole) (hM6 : M6.IsWhole) (hM7 : M7.IsWhole) (h7 : k0_cond7 i = 1#1) (N : Net)

/-- The diagonal block of the weights at grid point `i`. -/
abbrev diagOf : FVec Ideal S128x128 .f32 := tab 128 128 fun p q => N.w (nodeAt i + p) (nodeAt i + q)
/-- The node values before node `n`. -/
abbrev actsTo (n : ℕ) : FVec Ideal S2048x1024 .f32 := tab 2048 1024 (upTo N n)
/-- The block's pre-activations from the nodes before the block. -/
abbrev preOf : FVec Ideal S128x1024 .f32 := tab 128 1024 fun p q => pre N (nodeAt i) (nodeAt i + p) q
/-- The rows of the group that begins `lo` rows into the block, from the nodes before the group. -/
abbrev groupOf (lo : ℕ) : FVec Ideal S8x1024 .f32 := tab 8 1024 fun p q => pre N (nodeAt i + lo) (nodeAt i + lo + p) q

/-- Eight more node values. -/
theorem actsTo_add (n : ℕ) :
    (tab 2048 1024 fun p q => if n ≤ p ∧ p < n + 8 then act N q (n + (p - n)) else upTo N n p q) = actsTo N (n + 8) := by
  funext y
  simp only [tab, upTo]
  by_cases h : n ≤ (y 0).val ∧ (y 0).val < n + 8
  · rw [if_pos h, if_pos h.2, Nat.add_sub_cancel' h.1]
  · rw [if_neg h]
    by_cases h' : (y 0).val < n
    · rw [if_pos h', if_pos (by omega)]
    · rw [if_neg h', if_neg (by omega)]

/-- The three arrays that the groups touch, `lo` rows into the block. -/
abbrev rowsDone (lo : ℕ) : sProp 𝕄 :=
  iprop(holds c M3 (diagOf i N) ∗ holds c M6 (actsTo N (nodeAt i + lo)) ∗ holds c M7 (preOf i N))

/-- The diagonal block's weights for a group that begins `lo` rows into the block. -/
theorem load_diag {n lo : ℕ} (f : M3.view.ty.Contents (Elt Ideal)) (h : M3.view.read (Elt Ideal) f = diagOf i N)
    (inb : ∀ x, (![lo, lo] : Fin 2 → ℕ) x + (mat n 8).size x ≤ S128x128.size x) :
    View.readAt (Elt Ideal) M3.view (Rect.unit (s := S128x128) ![lo, lo] (mat n 8).size inb).toLoadRect f
      = tab n 8 fun p q => N.w (nodeAt i + lo + p) (nodeAt i + lo + q) :=
  (load_tab M3 f h rfl inb).trans (by simp only [Nat.add_assoc])

/-- The pre-activations of eight rows of the block. -/
theorem load_pre {lo : ℕ} (f : M7.view.ty.Contents (Elt Ideal)) (h : M7.view.read (Elt Ideal) f = preOf i N)
    (inb : ∀ x, (![lo, 0] : Fin 2 → ℕ) x + (mat 8 1024).size x ≤ S128x1024.size x) :
    View.readAt (Elt Ideal) M7.view (Rect.unit (s := S128x1024) ![lo, 0] (mat 8 1024).size inb).toLoadRect f
      = tab 8 1024 fun p q => pre N (nodeAt i) (nodeAt i + lo + p) q :=
  (load_tab M7 f h rfl inb).trans (by simp only [Nat.add_assoc, Nat.zero_add])

/-- Storing a group's node values takes the node values eight nodes further. -/
theorem store_acts {lo : ℕ} (f : M6.view.ty.Contents (Elt Ideal)) (h : M6.view.read (Elt Ideal) f = actsTo N (nodeAt i + lo))
    (hlo : lo < 128) (inb : ∀ x, k0_off1 i (BitVec.ofNat 32 lo) x + (mat 8 1024).size x ≤ S2048x1024.size x) :
    M6.view.read (Elt Ideal) (M6.view.writes (Elt Ideal) f
        [⟨Rect.unit (s := S2048x1024) (k0_off1 i (BitVec.ofNat 32 lo)) (mat 8 1024).size inb,
          tab 8 1024 fun p q => act N q (nodeAt i + lo + p)⟩])
      = actsTo N (nodeAt i + (lo + 8)) :=
  (store_tab M6 f h (off1_eq i hlo) inb).trans (actsTo_add N (nodeAt i + lo))

include hM3 hM6 hM7 in
/-- A group in the middle of a block: it leaves its eight nodes' values after the earlier ones, and hands on the next
    group's rows. -/
theorem midGroup_run (ht : nodeAt i + 128 ≤ N.top) (lo : ℕ) (h : lo % 8 = 0 ∧ 0 < lo ∧ lo < 120) (z : FVec Ideal S8x1024 .f32) :
    iprop(⌜z = groupOf i N lo⌝ ∗ rowsDone c i M3 M6 M7 N lo) ⊢ wp frame (wpE (defs₀ (F := Ideal)) Variants.none c none) Set.univ
      (midGroup (F := Ideal) i M3 M6 M7 h7 lo h z)
      (fun z => iprop(⌜z = groupOf i N (lo + 8)⌝ ∗ rowsDone c i M3 M6 M7 N (lo + 8))) := by
  have hs : 512 ≤ nodeAt i := by rw [nodeAt]; omega
  unfold rowsDone holds
  iintro ⟨%hz, ⟨%f3, %h3, H3⟩, ⟨%f6, %h6, H6⟩, ⟨%f7, %h7', H7⟩⟩
  subst hz
  unfold midGroup loadZ storeRows
  sl_exec
  have e3 := load_diag i M3 N (n := 16) (lo := lo) f3 h3 (inb_mat (by omega) (by omega))
  have e3' := (load_tab (c := 8) (d := lo) M3 f3 h3 (o := lo + 8) (o' := 0) rfl (inb_mat (by omega) (by omega))).trans
    (show _ = tab 8 lo fun p q => N.w (nodeAt i + (lo + 8) + p) (nodeAt i + q) by simp only [Nat.add_assoc, Nat.zero_add])
  have e7 := load_pre i M7 N (lo := lo + 8) f7 h7' (inb_mat (by omega) (by omega))
  have e6 := (load_tab (c := lo) (d := 1024) M6 f6 h6 (off2_eq i) (off2_inb i h7 (by omega))).trans
    (show _ = tab lo 1024 fun p q => act N q (nodeAt i + p) from funext fun y => by
      have := (y 0).isLt
      change _ < lo at this
      simp only [tab, Nat.zero_add]
      exact upTo_of_lt N (by omega))
  sl_step
  isplitr
  · ipureintro
    erw [e3, e3', e7, e6, nextRows_net, zns_net N (nodeAt i + lo) (by omega) (by omega)]
    simp only [groupOf, Nat.add_assoc]
  isplitl [H3]; · iexists f3; isplitr; · ipureintro; exact h3
                  iexact H3
  isplitl [H6]
  · iexists _; isplitr
    rotate_left
    · iexact H6
    · ipureintro
      erw [e3, vals_net N (nodeAt i + lo) _ (by omega) (by omega)]
      exact store_acts i M6 N f6 h6 (by omega) _
  · iexists f7; isplitr; · ipureintro; exact h7'
    iexact H7

include hM3 hM6 hM7 in
/-- The first group of a block. -/
theorem firstGroup_run (ht : nodeAt i + 128 ≤ N.top) :
    rowsDone c i M3 M6 M7 N 0 ⊢ wp frame (wpE (defs₀ (F := Ideal)) Variants.none c none) Set.univ
      (firstGroup (F := Ideal) i M3 M6 M7 h7)
      (fun z => iprop(⌜z = groupOf i N 8⌝ ∗ rowsDone c i M3 M6 M7 N 8)) := by
  have hs : 512 ≤ nodeAt i := by rw [nodeAt]; omega
  unfold rowsDone holds
  iintro ⟨⟨%f3, %h3, H3⟩, ⟨%f6, %h6, H6⟩, ⟨%f7, %h7', H7⟩⟩
  unfold firstGroup loadZ storeRows
  sl_exec
  have e3 := load_diag i M3 N (n := 16) (lo := 0) f3 h3 (inb_mat (by omega) (by omega))
  have e7 := load_pre i M7 N (lo := 0) f7 h7' (inb_mat (by omega) (by omega))
  have e7' := load_pre i M7 N (lo := 8) f7 h7' (inb_mat (by omega) (by omega))
  sl_step
  isplitr
  · ipureintro
    erw [e3, e7, e7']
    exact (zns_net N (nodeAt i) (by omega) (by omega) 8 (by omega))
  isplitl [H3]; · iexists f3; isplitr; · ipureintro; exact h3
                  iexact H3
  isplitl [H6]
  · iexists _; isplitr
    rotate_left
    · iexact H6
    · ipureintro
      erw [e3, e7, vals_net N (nodeAt i + 0) _ (by omega) (by omega)]
      exact store_acts i M6 N f6 h6 (by omega) _
  · iexists f7; isplitr; · ipureintro; exact h7'
    iexact H7

include hM3 hM6 in
/-- The last group of a block. -/
theorem lastGroup_run (ht : nodeAt i + 128 ≤ N.top) (z : FVec Ideal S8x1024 .f32) :
    iprop(⌜z = groupOf i N 120⌝ ∗ rowsDone c i M3 M6 M7 N 120) ⊢ wp frame (wpE (defs₀ (F := Ideal)) Variants.none c none) Set.univ
      (lastGroup (F := Ideal) i M3 M6 h7 z)
      (fun _ => rowsDone c i M3 M6 M7 N 128) := by
  have hs : 512 ≤ nodeAt i := by rw [nodeAt]; omega
  unfold rowsDone holds
  iintro ⟨%hz, ⟨%f3, %h3, H3⟩, ⟨%f6, %h6, H6⟩, H7⟩
  subst hz
  unfold lastGroup storeRows
  sl_exec
  have e3 := load_diag i M3 N (n := 8) (lo := 120) f3 h3 (inb_mat (by omega) (by omega))
  sl_step
  isplitl [H3]; · iexists f3; isplitr; · ipureintro; exact h3
                  iexact H3
  isplitl [H6]
  · iexists _; isplitr
    rotate_left
    · iexact H6
    · ipureintro
      erw [e3, vals_net N (nodeAt i + 120) _ (by omega) (by omega)]
      exact store_acts i M6 N f6 h6 (by omega) _
  · iexact H7

/-- One program after another. -/
theorem wp_seq {α β : Type} {p : Prog (TpuEff nD τ sig (Elt Ideal) Λ₀ .tc) α} {k : α → Prog (TpuEff nD τ sig (Elt Ideal) Λ₀ .tc) β}
    {P : sProp 𝕄} {Q : α → sProp 𝕄} {R : β → sProp 𝕄}
    (hp : P ⊢ wp frame (wpE (defs₀ (F := Ideal)) Variants.none (c : Thread nD τ) none) Set.univ p Q)
    (hk : ∀ a, Q a ⊢ wp frame (wpE (defs₀ (F := Ideal)) Variants.none (c : Thread nD τ) none) Set.univ (k a) R) :
    P ⊢ wp frame (wpE (defs₀ (F := Ideal)) Variants.none (c : Thread nD τ) none) Set.univ (p >>= k) R := by
  rw [Idealize.SL.Sem.wp_bind]
  exact hp.trans (wp_mono _ _ _ hk)

include hM3 hM6 hM7 in
/-- The sixteen groups: the block's node values after the earlier ones. -/
theorem groups_run (ht : nodeAt i + 128 ≤ N.top) :
    rowsDone c i M3 M6 M7 N 0 ⊢ wp frame (wpE (defs₀ (F := Ideal)) Variants.none c none) Set.univ
      (groups (F := Ideal) i M3 M6 M7 h7) (fun _ => rowsDone c i M3 M6 M7 N 128) := by
  refine wp_seq c (firstGroup_run c i M3 M6 M7 hM3 hM6 hM7 h7 N ht) fun z => ?_
  iterate 14 refine wp_seq c (midGroup_run c i M3 M6 M7 hM3 hM6 hM7 h7 N ht _ _ z) fun z => ?_
  exact lastGroup_run c i M3 M6 M7 hM3 hM6 h7 N ht z

end Cert.KernelIdeal.Proof
-- ==== Proof.Stages.lean ====
/-
  The body of the kernel as stages: the first grid point's copy of the inputs, the product with the first 768 node
  values, five products with 256 more under a test each, the sixteen groups, and the two output blocks' `tanh`. The
  printed body is these in a row.
-/
module

public import proofs.«01_k».proof.Proof.Groups

@[expose] public section

noncomputable section

namespace Cert.KernelIdeal.Proof

open Cert.KernelIdeal Cert.KernelIdeal.Gen
open Idealize.ShloMosaic Idealize.ShloMosaic.TcCoe Idealize.ShloMosaic.Tactic
open Idealize.SL.Sem

variable {F : FTy → Type} [FloatOps F]

/-- `A` if the test holds, then `k`. -/
def whenDo {β : Type} (p : Prop) [Decidable p] (A : p → Prog (TpuEff nD τ sig (Elt F) Λ₀ .tc) PUnit)
    (k : Prog (TpuEff nD τ sig (Elt F) Λ₀ .tc) β) : Prog (TpuEff nD τ sig (Elt F) Λ₀ .tc) β :=
  if h : p then A h >>= fun _ => k else k

/-- The first column that grid point `i` does not read: the end of its block, at most 1792. -/
def lastCol (i : grid0.Coords) : BitVec 32 :=
  Scalar.minsi (Scalar.addi (Scalar.addi 512#32 (Scalar.muli (BitVec.ofNat 32 (i 0).val) 128#32)) 128#32) 1792#32

/-- The test at the head of the product with the columns from `n` on. -/
def chunkTest (v6 : BitVec 32) (n : ℕ) : BitVec 1 := Scalar.cmpi .ne (Scalar.extui (Scalar.cmpi .sgt v6 (BitVec.ofNat 32 n)) : BitVec 32) 0#32

/-- The test of the first grid point. -/
def startTest (i : grid0.Coords) : BitVec 1 :=
  Scalar.cmpi .ne (Scalar.extui (Scalar.cmpi .eq (BitVec.ofNat 32 (i 0).val) 0#32) : BitVec 32) 0#32

/-- The rows' sums with the bias: the product with the first 768 node values. -/
def firstSum (w : Vec F (mat 128 768) .f32) (a : Vec F (mat 768 1024) .f32) (b : Vec F S1x128x1 .f32) : FVec F S128x1024 .f32 :=
  shapeCast S128x1024 (addf (matmul (DotDims.plain 128 768 1024) none w a (constant S128x1024 .f32 0x00000000#32))
    (broadcastTo S128x1024 (shapeCast S128x1 b shapeCasts_S1x128x1_S128x1) broadcasts_S128x1_S128x1024)) shapeCasts_S128x1024_S128x1024

/-- The rows' sums with the product with 256 more node values. -/
def chunkSum (z : Vec F S128x1024 .f32) (w : Vec F (mat 128 256) .f32) (a : Vec F (mat 256 1024) .f32) : FVec F S128x1024 .f32 :=
  shapeCast S128x1024 (addf z (matmul (DotDims.plain 128 256 1024) none w a (constant S128x1024 .f32 0x00000000#32)))
    shapeCasts_S128x1024_S128x1024

section Program

variable (i : grid0.Coords) (M1 : Memref sig .tc .vmem S512x1024 .f32) (M2 : Memref sig .tc .vmem S128x2048 .f32)
  (M3 : Memref sig .tc .vmem S128x128 .f32) (M4 : Memref sig .tc .vmem S1x128x1 .f32) (M5 : Memref sig .tc .vmem S128x1024 .f32)
  (M6 : Memref sig .tc .vmem S2048x1024 .f32) (M7 : Memref sig .tc .vmem S128x1024 .f32)

/-- The inputs into the first 512 rows, zeros into the others. -/
def start : Prog (TpuEff nD τ sig (Elt F) Λ₀ .tc) PUnit := do
  let x : Vec F S512x1024 .f32 ← Prog.lift (.load M1 (Rect.unit (s := S512x1024) ![0, 0] S512x1024.size inb_S512x1024_S512x1024_0_0).toLoadRect (View.loadsAt_vmem h_S512x1024))
  let _ : Vec F S512x1024 .f32 ← Prog.lift (.load M6 (Rect.unit (s := S2048x1024) ![0, 0] S512x1024.size inb_S2048x1024_S512x1024_0_0).toLoadRect (View.loadsAt_vmem h_S512x1024))
  Prog.lift (.store M6 (Rect.unit (s := S2048x1024) ![0, 0] S512x1024.size inb_S2048x1024_S512x1024_0_0) (k0_pay305 x) Finset.univ (View.stores_vmem_bits_univ h_S512x1024 rfl) (.inl rfl))
  let _ : Vec F S1536x1024 .f32 ← Prog.lift (.load M6 (Rect.unit (s := S2048x1024) ![512, 0] S1536x1024.size inb_S2048x1024_S1536x1024_512_0).toLoadRect (View.loadsAt_vmem h_S1536x1024))
  Prog.lift (.store M6 (Rect.unit (s := S2048x1024) ![512, 0] S1536x1024.size inb_S2048x1024_S1536x1024_512_0) (k0_pay306 (F := F)) Finset.univ (View.stores_vmem_bits_univ h_S1536x1024 rfl) (.inl rfl))

/-- Store the rows' sums. -/
def storeZ (v : FVec F S128x1024 .f32) : Prog (TpuEff nD τ sig (Elt F) Λ₀ .tc) PUnit := do
  let _ : Vec F S128x1024 .f32 ← Prog.lift (.load M7 (Rect.unit (s := S128x1024) ![0, 0] S128x1024.size inb_S128x1024_S128x1024_0_0).toLoadRect (View.loadsAt_vmem h_S128x1024))
  Prog.lift (.store M7 (Rect.unit (s := S128x1024) ![0, 0] S128x1024.size inb_S128x1024_S128x1024_0_0) v Finset.univ (View.stores_vmem_bits_univ h_S128x1024 rfl) (.inl rfl))

/-- The product with the first 768 node values, plus the bias. -/
def firstProduct : Prog (TpuEff nD τ sig (Elt F) Λ₀ .tc) PUnit := do
  let w : Vec F S128x768 .f32 ← Prog.lift (.load M2 (Rect.unit (s := S128x2048) ![0, 0] S128x768.size inb_S128x2048_S128x768_0_0).toLoadRect (View.loadsAt_vmem h_S128x768))
  let a : Vec F S768x1024 .f32 ← Prog.lift (.load M6 (Rect.unit (s := S2048x1024) ![0, 0] S768x1024.size inb_S2048x1024_S768x1024_0_0).toLoadRect (View.loadsAt_vmem h_S768x1024))
  let b : Vec F S1x128x1 .f32 ← Prog.lift (.load M4 (Rect.unit (s := S1x128x1) ![0, 0, 0] S1x128x1.size inb_S1x128x1_S1x128x1_0_0_0).toLoadRect (View.loadsAt_vmem h_S1x128x1))
  storeZ M7 (firstSum w a b)

/-- The product with the 256 node values from `n` on, added. -/
def chunk (n : ℕ) (h : n + 256 ≤ 2048) : Prog (TpuEff nD τ sig (Elt F) Λ₀ .tc) PUnit := do
  let z : Vec F S128x1024 .f32 ← Prog.lift (.load M7 (Rect.unit (s := S128x1024) ![0, 0] S128x1024.size inb_S128x1024_S128x1024_0_0).toLoadRect (View.loadsAt_vmem h_S128x1024))
  let w : Vec F S128x256 .f32 ← Prog.lift (.load M2 (Rect.unit (s := S128x2048) ![0, n] S128x256.size (inb_mat (by omega) h)).toLoadRect (View.loadsAt_vmem h_S128x256))
  let a : Vec F S256x1024 .f32 ← Prog.lift (.load M6 (Rect.unit (s := S2048x1024) ![n, 0] S256x1024.size (inb_mat h (by omega))).toLoadRect (View.loadsAt_vmem h_S256x1024))
  storeZ M7 (chunkSum z w a)

/-- An output block: `tanh` of the rows' sums. -/
def emitBlock : Prog (TpuEff nD τ sig (Elt F) Λ₀ .tc) PUnit := do
  let z : Vec F S128x1024 .f32 ← Prog.lift (.load M7 (Rect.unit (s := S128x1024) ![0, 0] S128x1024.size inb_S128x1024_S128x1024_0_0).toLoadRect (View.loadsAt_vmem h_S128x1024))
  storeZ M5 (k0_pay3 z)

/-- The stages before the last product. -/
def sums : Prog (TpuEff nD τ sig (Elt F) Λ₀ .tc) (Σ' (_ : BitVec 32) (_ : BitVec 32), BitVec 32) :=
  whenDo (startTest i = 1#1) (fun _ => start M1 M6) <|
  firstProduct M2 M4 M6 M7 >>= fun _ =>
  whenDo (chunkTest (lastCol i) 768 = 1#1) (fun _ => chunk M2 M6 M7 768 (by omega)) <|
  whenDo (chunkTest (lastCol i) 1024 = 1#1) (fun _ => chunk M2 M6 M7 1024 (by omega)) <|
  whenDo (chunkTest (lastCol i) 1280 = 1#1) (fun _ => chunk M2 M6 M7 1280 (by omega)) <|
  whenDo (chunkTest (lastCol i) 1536 = 1#1) (fun _ => chunk M2 M6 M7 1536 (by omega)) <|
  pure ⟨BitVec.ofNat 32 (i 0).val, Scalar.addi 512#32 (Scalar.muli (BitVec.ofNat 32 (i 0).val) 128#32), lastCol i⟩

/-- All the stages, of which `S` are those before the last product and `G` is the serial stretch. -/
def stagesOf (S : Prog (TpuEff nD τ sig (Elt F) Λ₀ .tc) (Σ' (_ : BitVec 32) (_ : BitVec 32), BitVec 32))
    (G : BitVec 32 → k0_cond7 i = 1#1 → Prog (TpuEff nD τ sig (Elt F) Λ₀ .tc) PUnit → Prog (TpuEff nD τ sig (Elt F) Λ₀ .tc) PUnit) : Prog (TpuEff nD τ sig (Elt F) Λ₀ .tc) PUnit :=
  S >>= fun r =>
  whenDo (chunkTest r.2.2 1792 = 1#1) (fun _ => chunk M2 M6 M7 1792 (by omega)) <|
  let k := whenDo (k0_cond8 i = 1#1) (fun _ => emitBlock M5 M7) (pure ⟨⟩)
  if h : k0_cond7 i = 1#1 then G r.2.1 h k else k

/-- All the stages. -/
def stages : Prog (TpuEff nD τ sig (Elt F) Λ₀ .tc) PUnit :=
  stagesOf i M2 M5 M6 M7 (sums i M1 M2 M4 M6 M7) fun _ h k => groups i M3 M6 M7 h >>= fun _ => k

end Program

set_option maxRecDepth 65536 in
/-- The printed stretch before the last product is the stages. -/
theorem sums_eq (i : grid0.Coords) (arg1 : Memref sig .tc .vmem S512x1024 .f32) (harg1 : arg1.IsWhole)
    (arg2 : Memref sig .tc .vmem S128x2048 .f32) (harg2 : arg2.IsWhole) (arg3 : Memref sig .tc .vmem S128x128 .f32)
    (harg3 : arg3.IsWhole) (arg4 : Memref sig .tc .vmem S1x128x1 .f32) (harg4 : arg4.IsWhole)
    (arg5 : Memref sig .tc .vmem S128x1024 .f32) (harg5 : arg5.IsWhole) (arg6 : Memref sig .tc .vmem S2048x1024 .f32)
    (harg6 : arg6.IsWhole) (arg7 : Memref sig .tc .vmem S128x1024 .f32) (harg7 : arg7.IsWhole) :
    k0_part31 (F := F) i arg1 harg1 arg2 harg2 arg3 harg3 arg4 harg4 arg5 harg5 arg6 harg6 arg7 harg7
      = sums i arg1 arg2 arg4 arg6 arg7 := rfl

set_option maxRecDepth 65536 in
/-- The printed body is the stages. -/
theorem stages_eq (i : grid0.Coords) (arg1 : Memref sig .tc .vmem S512x1024 .f32) (harg1 : arg1.IsWhole)
    (arg2 : Memref sig .tc .vmem S128x2048 .f32) (harg2 : arg2.IsWhole) (arg3 : Memref sig .tc .vmem S128x128 .f32)
    (harg3 : arg3.IsWhole) (arg4 : Memref sig .tc .vmem S1x128x1 .f32) (harg4 : arg4.IsWhole)
    (arg5 : Memref sig .tc .vmem S128x1024 .f32) (harg5 : arg5.IsWhole) (arg6 : Memref sig .tc .vmem S2048x1024 .f32)
    (harg6 : arg6.IsWhole) (arg7 : Memref sig .tc .vmem S128x1024 .f32) (harg7 : arg7.IsWhole) :
    cc0__dag_kernel (F := F) i arg1 harg1 arg2 harg2 arg3 harg3 arg4 harg4 arg5 harg5 arg6 harg6 arg7 harg7
      = stages i arg1 arg2 arg3 arg4 arg5 arg6 arg7 := by
  have h : cc0__dag_kernel (F := F) i arg1 harg1 arg2 harg2 arg3 harg3 arg4 harg4 arg5 harg5 arg6 harg6 arg7 harg7
      = stagesOf i arg2 arg5 arg6 arg7
          (k0_part31 (F := F) i arg1 harg1 arg2 harg2 arg3 harg3 arg4 harg4 arg5 harg5 arg6 harg6 arg7 harg7)
          (serialThen i arg1 harg1 arg2 harg2 arg3 harg3 arg4 harg4 arg5 harg5 arg6 harg6 arg7 harg7) := by
    rw [cc0__dag_kernel_eq_skeleton]
    rfl
  rw [h, sums_eq]
  exact congrArg _ (funext fun v4 => funext fun h7 => funext fun k =>
    (serialThen_eq i arg1 harg1 arg2 harg2 arg3 harg3 arg4 harg4 arg5 harg5 arg6 harg6 arg7 harg7 v4 h7 k).trans
    (congrArg (· >>= fun _ => k) (serial_eq i arg1 harg1 arg2 harg2 arg3 harg3 arg4 harg4 arg5 harg5 arg6 harg6 arg7 harg7 v4 h7)))

end Cert.KernelIdeal.Proof
-- ==== Proof.StageRun.lean ====
/-
  The stages of the body, run: at grid point `i` the node values of the block's 128 nodes join the ones before them, or,
  at the two points of the outputs, are the result's block.
-/
module

public import proofs.«01_k».proof.Proof.GroupRun
public import proofs.«01_k».proof.Proof.Stages
public import Idealize.ShloMosaic.Lib.VecWindow

@[expose] public section

noncomputable section

namespace Cert.KernelIdeal.Proof

open Cert.KernelIdeal Cert.KernelIdeal.Gen Cert.Dag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A program under a test, then another. -/
theorem wp_whenDo (c : Dev nD) {β : Type} {p : Prop} [Decidable p] {A : p → Prog (TpuEff nD τ sig (Elt Ideal) Λ₀ .tc) PUnit}
    {k : Prog (TpuEff nD τ sig (Elt Ideal) Λ₀ .tc) β} {P Q : sProp 𝕄} {R : β → sProp 𝕄}
    (hA : ∀ h, P ⊢ wp frame (wpE (defs₀ (F := Ideal)) Variants.none (c : Thread nD τ) none) Set.univ (A h) (fun _ => Q))
    (hn : ¬ p → P ⊢ Q)
    (hk : Q ⊢ wp frame (wpE (defs₀ (F := Ideal)) Variants.none (c : Thread nD τ) none) Set.univ k R) :
    P ⊢ wp frame (wpE (defs₀ (F := Ideal)) Variants.none (c : Thread nD τ) none) Set.univ (whenDo p A k) R := by
  unfold whenDo
  by_cases h : p
  · rw [dif_pos h]
    exact wp_seq c (hA h) fun _ => hk
  · rw [dif_neg h]
    exact (hn h).trans hk

/-- The end of a program. -/
theorem wp_end (c : Dev nD) {β : Type} {a : β} {P : sProp 𝕄} :
    P ⊢ wp frame (wpE (defs₀ (F := Ideal)) Variants.none (c : Thread nD τ) none) Set.univ (pure a : Prog (TpuEff nD τ sig (Elt Ideal) Λ₀ .tc) β) (fun _ => P) := by
  iintro H
  sl_step
  iexact H

/-- A whole matrix, stored over. -/
theorem store_all {a b : ℕ} (M : Memref sig .tc .vmem (mat a b) .f32) (f : M.view.ty.Contents (Elt Ideal)) (v : FVec Ideal (mat a b) .f32)
    (inb : ∀ x, (![0, 0] : Fin 2 → ℕ) x + (mat a b).size x ≤ (mat a b).size x) :
    M.view.read (Elt Ideal) (M.view.writes (Elt Ideal) f [⟨Rect.unit (s := mat a b) ![0, 0] (mat a b).size inb, v⟩]) = v := by
  funext y
  exact View.read_writes_cons_unit_of_mem M.view f inb v [] y y rfl fun x => by fin_cases x <;> simp

/-- How many nodes are done when grid point `i` begins. -/
def doneAt (i : grid0.Coords) : ℕ := min (nodeAt i) 1792

/-- Where a product is left out, the node values it would read are not there yet. -/
theorem chunk_skip (i : grid0.Coords) (n : ℕ) (hn : n = 768 ∨ n = 1024 ∨ n = 1280 ∨ n = 1536)
    (h : ¬ chunkTest (lastCol i) n = 1#1) : doneAt i ≤ n := by
  have key : ∀ k : Fin 12, ∀ n ∈ [768, 1024, 1280, 1536],
      ¬ chunkTest (Scalar.minsi (Scalar.addi (Scalar.addi 512#32 (Scalar.muli (BitVec.ofNat 32 k.val) 128#32)) 128#32) 1792#32) n = 1#1 →
        min (512 + 128 * k.val) 1792 ≤ n := by decide
  exact key (i 0) n (by simpa using hn) h

/-- The start is taken at the first grid point alone. -/
theorem start_test (i : grid0.Coords) : startTest i = 1#1 ↔ (i 0).val = 0 := by
  have key : ∀ k : Fin 12, (Scalar.cmpi .ne (Scalar.extui (Scalar.cmpi .eq (BitVec.ofNat 32 k.val) 0#32) : BitVec 32) 0#32 = 1#1) ↔ k.val = 0 := by decide
  exact key (i 0)

/-- The groups are taken at the first ten grid points. -/
theorem serial_test (i : grid0.Coords) : k0_cond7 i = 1#1 ↔ (i 0).val < 10 := by
  have key : ∀ k : Fin 12, (Scalar.cmpi .ne (Scalar.extui (Scalar.cmpi .slt (BitVec.ofNat 32 k.val) 10#32) : BitVec 32) 0#32 = 1#1) ↔ k.val < 10 := by decide
  exact key (i 0)

/-- The output is taken from the eleventh grid point on. -/
theorem emit_test (i : grid0.Coords) : k0_cond8 i = 1#1 ↔ 10 ≤ (i 0).val := by
  have key : ∀ k : Fin 12, (Scalar.cmpi .ne (Scalar.extui (Scalar.cmpi .sge (BitVec.ofNat 32 k.val) 10#32) : BitVec 32) 0#32 = 1#1) ↔ 10 ≤ k.val := by decide
  exact key (i 0)

section Values

variable (N : Net) (i : grid0.Coords)

/-- The block's rows' sums over the first `n` columns, of the node values that are done. -/
abbrev sumsTo (n : ℕ) : FVec Ideal S128x1024 .f32 :=
  tab 128 1024 fun p q => N.b (nodeAt i + p) + ∑ j ∈ Finset.range n, N.w (nodeAt i + p) j * upTo N (doneAt i) j q

/-- The block's biases. -/
abbrev biasOf : FVec Ideal S1x128x1 .f32 := fun y => N.b (nodeAt i + (y 1).val)

/-- The first product and the bias: the rows' sums over 768 columns. -/
theorem firstSum_tab : firstSum (F := Ideal) (tab 128 768 fun p q => N.w (nodeAt i + p) q) (tab 768 1024 (upTo N (doneAt i))) (biasOf N i)
    = sumsTo N i 768 := by
  rw [firstSum, matmul_tab]
  funext y
  rw [eq_ix2 y]
  pointwise [tab]
  exact add_comm _ _

/-- One more product: the rows' sums over 256 columns more. -/
theorem chunkSum_tab (n : ℕ) : chunkSum (F := Ideal) (sumsTo N i n) (tab 128 256 fun p q => N.w (nodeAt i + p) (n + q))
      (tab 256 1024 fun p q => upTo N (doneAt i) (n + p) q)
    = sumsTo N i (n + 256) := by
  rw [chunkSum, matmul_tab]
  funext y
  rw [eq_ix2 y]
  pointwise [tab]
  rw [Finset.sum_range_add, add_assoc]

/-- Columns past the node values that are done add nothing. -/
theorem sumsTo_of_le (n m : ℕ) (h : doneAt i ≤ n) : sumsTo N i n = sumsTo N i (n + m) := by
  funext y
  simp only [tab]
  rw [sum_upTo N h, sum_upTo N (by omega)]

/-- The sums over all the columns are the sums over the nodes that are done. -/
theorem sumsTo_all : sumsTo N i 2048 = tab 128 1024 fun p q => pre N (doneAt i) (nodeAt i + p) q := by
  funext y
  simp only [tab]
  rw [sum_upTo N (by rw [doneAt]; omega)]
  rfl

/-- What the start stores in the first rows: the inputs. -/
theorem start_tab (x : FVec Ideal S512x1024 .f32) (hx : x = tab 512 1024 N.x) : k0_pay305 (F := Ideal) x = tab 512 1024 N.x := by
  subst hx
  funext y
  rw [eq_ix2 y]
  pointwise [k0_pay305]

/-- What the start stores in the other rows: zeros. -/
theorem zeros_tab : k0_pay306 (F := Ideal) = tab 1536 1024 fun _ _ => 0 := by
  funext y
  rw [eq_ix2 y]
  pointwise [k0_pay306, tab]

/-- At the last two grid points, `tanh` of the sums is the node values of the block. -/
theorem emit_all (hi : 10 ≤ (i 0).val) (hT : N.top = 1792) : k0_pay3 (F := Ideal) (sumsTo N i 2048) = tab 128 1024 fun p q => act N q (nodeAt i + p) := by
  rw [sumsTo_all]
  have hn : 1792 ≤ nodeAt i := by rw [nodeAt]; omega
  funext y
  rw [eq_ix2 y]
  pointwise [k0_pay3, tab]
  rw [act_node N (by omega), hT, doneAt, min_eq_right hn, min_eq_right (by omega)]

end Values

/-- The inputs over the first 512 rows and zeros over the rest are the node values before node 512. -/
theorem store_start (N : Net) (M : Memref sig .tc .vmem (mat 2048 1024) .f32) (f : M.view.ty.Contents (Elt Ideal))
    (inb : ∀ x, (![0, 0] : Fin 2 → ℕ) x + (mat 512 1024).size x ≤ (mat 2048 1024).size x)
    (inb' : ∀ x, (![512, 0] : Fin 2 → ℕ) x + (mat 1536 1024).size x ≤ (mat 2048 1024).size x) :
    M.view.read (Elt Ideal) (M.view.writes (Elt Ideal) f
        [⟨Rect.unit (s := mat 2048 1024) ![512, 0] (mat 1536 1024).size inb', tab 1536 1024 fun _ _ => 0⟩,
          ⟨Rect.unit (s := mat 2048 1024) ![0, 0] (mat 512 1024).size inb, tab 512 1024 N.x⟩]) = actsTo N 512 := by
  funext y
  have hy : (y 0).val < 2048 := (y 0).isLt
  rw [View.read_writes_cons_rows (W := 1536) M.view f inb' _ _ y rfl rfl rfl, View.read_writes_cons_rows (W := 512) M.view f inb _ _ y rfl rfl rfl]
  by_cases h : (y 0).val < 512
  · rw [dif_neg (by omega), dif_pos ⟨Nat.zero_le _, by omega⟩]
    simp only [tab, Rect.unitLocal_val]
    rw [upTo_of_lt N h, act_input N h]
    rfl
  · rw [dif_pos ⟨by omega, by omega⟩]
    simp only [tab]
    rw [upTo_of_le N (by omega)]

section Run

variable (c : Dev nD) (i : grid0.Coords) (M1 : Memref sig .tc .vmem S512x1024 .f32) (M2 : Memref sig .tc .vmem S128x2048 .f32)
  (M3 : Memref sig .tc .vmem S128x128 .f32) (M4 : Memref sig .tc .vmem S1x128x1 .f32) (M5 : Memref sig .tc .vmem S128x1024 .f32)
  (M6 : Memref sig .tc .vmem S2048x1024 .f32) (M7 : Memref sig .tc .vmem S128x1024 .f32)
  (h1 : M1.IsWhole) (h2 : M2.IsWhole) (h3 : M3.IsWhole) (h4 : M4.IsWhole) (h5 : M5.IsWhole) (h6 : M6.IsWhole) (h7 : M7.IsWhole) (N : Net)

/-- The four operand blocks of grid point `i`, the result's block, the node values and the rows' sums. -/
abbrev held (P5 P6 P7 : sProp 𝕄) : sProp 𝕄 :=
  iprop(holds c M1 (tab 512 1024 N.x) ∗ holds c M2 (tab 128 2048 fun p q => N.w (nodeAt i + p) q) ∗ holds c M3 (diagOf i N)
    ∗ holds c M4 (biasOf N i) ∗ P5 ∗ P6 ∗ P7)

include h1 h6 in
/-- The start, run: the scratch array ends with the inputs and zeros after them. -/
theorem start_run (P5 P7 : sProp 𝕄) :
    held c i M1 M2 M3 M4 N P5 iprop(∃ f, pt c M6 f) P7 ⊢ wp frame (wpE (defs₀ (F := Ideal)) Variants.none c none) Set.univ
      (start (F := Ideal) M1 M6) (fun _ => held c i M1 M2 M3 M4 N P5 (holds c M6 (actsTo N 512)) P7) := by
  unfold held holds
  iintro ⟨⟨%f1, %e1, H1⟩, H2, H3, H4, H5, ⟨%f6, H6⟩, H7⟩
  unfold start
  sl_exec
  sl_step
  isplitl [H1]; · iexists f1; isplitr; · ipureintro; exact e1
                  iexact H1
  isplitl [H2]; · iexact H2
  isplitl [H3]; · iexact H3
  isplitl [H4]; · iexact H4
  isplitl [H5]; · iexact H5
  isplitr [H7]
  · iexists _; isplitr
    rotate_left
    · iexact H6
    · ipureintro
      erw [(View.readAt_full M1.view f1 inb_S512x1024_S512x1024_0_0).trans e1, start_tab N _ rfl, zeros_tab]
      exact store_start N M6 f6 inb_S2048x1024_S512x1024_0_0 inb_S2048x1024_S1536x1024_512_0
  iexact H7

include h2 h4 h6 h7 in
/-- The first product, run: the rows' sums end at those over 768 columns. -/
theorem first_run (P5 : sProp 𝕄) :
    held c i M1 M2 M3 M4 N P5 (holds c M6 (actsTo N (doneAt i))) iprop(∃ f, pt c M7 f) ⊢ wp frame (wpE (defs₀ (F := Ideal)) Variants.none c none) Set.univ
      (firstProduct (F := Ideal) M2 M4 M6 M7) (fun _ => held c i M1 M2 M3 M4 N P5 (holds c M6 (actsTo N (doneAt i))) (holds c M7 (sumsTo N i 768))) := by
  unfold held holds
  iintro ⟨H1, ⟨%f2, %e2, H2⟩, H3, ⟨%f4, %e4, H4⟩, H5, ⟨%f6, %e6, H6⟩, ⟨%f7, H7⟩⟩
  unfold firstProduct storeZ
  sl_exec
  sl_step
  isplitl [H1]; · iexact H1
  isplitl [H2]; · iexists f2; isplitr; · ipureintro; exact e2
                  iexact H2
  isplitl [H3]; · iexact H3
  isplitl [H4]; · iexists f4; isplitr; · ipureintro; exact e4
                  iexact H4
  isplitl [H5]; · iexact H5
  isplitl [H6]; · iexists f6; isplitr; · ipureintro; exact e6
                  iexact H6
  · iexists _; isplitr
    rotate_left
    · iexact H7
    · ipureintro
      erw [load_tab M2 f2 e2 rfl, load_tab M6 f6 e6 rfl, (View.readAt_full M4.view f4 inb_S1x128x1_S1x128x1_0_0_0).trans e4]
      simp only [Nat.zero_add]
      erw [firstSum_tab]
      exact store_all M7 f7 _ inb_S128x1024_S128x1024_0_0

include h2 h6 h7 in
/-- One product of 256 columns, run: the rows' sums end at those over 256 columns more. -/
theorem chunk_run (P5 : sProp 𝕄) (n : ℕ) (hn : n + 256 ≤ 2048) :
    held c i M1 M2 M3 M4 N P5 (holds c M6 (actsTo N (doneAt i))) (holds c M7 (sumsTo N i n)) ⊢ wp frame (wpE (defs₀ (F := Ideal)) Variants.none c none) Set.univ
      (chunk (F := Ideal) M2 M6 M7 n hn) (fun _ => held c i M1 M2 M3 M4 N P5 (holds c M6 (actsTo N (doneAt i))) (holds c M7 (sumsTo N i (n + 256)))) := by
  unfold held holds
  iintro ⟨H1, ⟨%f2, %e2, H2⟩, H3, H4, H5, ⟨%f6, %e6, H6⟩, ⟨%f7, %e7, H7⟩⟩
  unfold chunk storeZ
  sl_exec
  sl_step
  isplitl [H1]; · iexact H1
  isplitl [H2]; · iexists f2; isplitr; · ipureintro; exact e2
                  iexact H2
  isplitl [H3]; · iexact H3
  isplitl [H4]; · iexact H4
  isplitl [H5]; · iexact H5
  isplitl [H6]; · iexists f6; isplitr; · ipureintro; exact e6
                  iexact H6
  · iexists _; isplitr
    rotate_left
    · iexact H7
    · ipureintro
      erw [load_tab M2 f2 e2 rfl, load_tab M6 f6 e6 rfl, (View.readAt_full M7.view f7 inb_S128x1024_S128x1024_0_0).trans e7]
      simp only [Nat.zero_add]
      erw [chunkSum_tab]
      exact store_all M7 f7 _ inb_S128x1024_S128x1024_0_0

include h2 h6 h7 in
/-- A product that may be left out, then more: left out, its columns would have added nothing. -/
theorem chunk_step (P5 : sProp 𝕄) (n m : ℕ) (hm : n + 256 = m) (hn : n + 256 ≤ 2048) {p : Prop} [Decidable p] (hp : ¬ p → doneAt i ≤ n) {β : Type}
    {k : Prog (TpuEff nD τ sig (Elt Ideal) Λ₀ .tc) β} {R : β → sProp 𝕄}
    (hk : held c i M1 M2 M3 M4 N P5 (holds c M6 (actsTo N (doneAt i))) (holds c M7 (sumsTo N i m))
      ⊢ wp frame (wpE (defs₀ (F := Ideal)) Variants.none (c : Thread nD τ) none) Set.univ k R) :
    held c i M1 M2 M3 M4 N P5 (holds c M6 (actsTo N (doneAt i))) (holds c M7 (sumsTo N i n))
      ⊢ wp frame (wpE (defs₀ (F := Ideal)) Variants.none (c : Thread nD τ) none) Set.univ (whenDo p (fun _ => chunk (F := Ideal) M2 M6 M7 n hn) k) R := by
  subst hm
  exact wp_whenDo c (fun _ => chunk_run c i M1 M2 M3 M4 M6 M7 h2 h6 h7 N P5 n hn) (fun h => by rw [sumsTo_of_le N i n 256 (hp h)]) hk

include h5 h7 in
/-- The output, run: the result's block ends at the node values of the block. -/
theorem emit_run (hi : 10 ≤ (i 0).val) (hT : N.top = 1792) (X5 : S128x1024.Idx → EReal) (P6 : sProp 𝕄) :
    held c i M1 M2 M3 M4 N (holds c M5 X5) P6 (holds c M7 (sumsTo N i 2048)) ⊢ wp frame (wpE (defs₀ (F := Ideal)) Variants.none c none) Set.univ
      (emitBlock (F := Ideal) M5 M7) (fun _ => held c i M1 M2 M3 M4 N (holds c M5 (tab 128 1024 fun p q => act N q (nodeAt i + p))) P6
        iprop(∃ f, pt c M7 f)) := by
  unfold held holds
  iintro ⟨H1, H2, H3, H4, ⟨%f5, -, H5⟩, H6, ⟨%f7, %e7, H7⟩⟩
  unfold emitBlock storeZ
  sl_exec
  sl_step
  isplitl [H1]; · iexact H1
  isplitl [H2]; · iexact H2
  isplitl [H3]; · iexact H3
  isplitl [H4]; · iexact H4
  isplitl [H5]
  · iexists _; isplitr
    rotate_left
    · iexact H5
    · ipureintro
      erw [(View.readAt_full M7.view f7 inb_S128x1024_S128x1024_0_0).trans e7, emit_all N i hi hT]
      exact store_all M5 f5 _ inb_S128x1024_S128x1024_0_0
  isplitl [H6]; · iexact H6
  iexists _; iexact H7

/-- The node values as grid point `i` finds them: of the first point nothing is asked. -/
def foundActs : sProp 𝕄 := if (i 0).val = 0 then iprop(∃ f, pt c M6 f) else holds c M6 (actsTo N (doneAt i))

/-- The result's block as grid point `i` leaves it: at the two points of the outputs, their node values; at the others, as it was. -/
def leftOut (X5 : S128x1024.Idx → EReal) : sProp 𝕄 :=
  if 10 ≤ (i 0).val then holds c M5 (tab 128 1024 fun p q => act N q (nodeAt i + p)) else holds c M5 X5

include h1 h2 h4 h6 h7 in
/-- The stages before the last product. -/
theorem sums_run (P5 : sProp 𝕄) :
    held c i M1 M2 M3 M4 N P5 (foundActs c i M6 N) iprop(∃ f, pt c M7 f)
      ⊢ wp frame (wpE (defs₀ (F := Ideal)) Variants.none c none) Set.univ (sums (F := Ideal) i M1 M2 M4 M6 M7)
        (fun _ => held c i M1 M2 M3 M4 N P5 (holds c M6 (actsTo N (doneAt i))) (holds c M7 (sumsTo N i 1792))) := by
  unfold sums
  refine wp_whenDo c (Q := held c i M1 M2 M3 M4 N P5 (holds c M6 (actsTo N (doneAt i))) iprop(∃ f, pt c M7 f)) (fun h => ?_) (fun h => ?_) ?_
  · have h0 := (start_test i).mp h
    have hd : doneAt i = 512 := by rw [doneAt, nodeAt, h0]; rfl
    simp only [foundActs, if_pos h0, hd]
    exact start_run c i M1 M2 M3 M4 M6 h1 h6 N _ _
  · simp only [foundActs, if_neg (fun h' => h ((start_test i).mpr h'))]
    exact .rfl
  rw [Idealize.SL.Sem.wp_bind]
  refine (first_run c i M1 M2 M3 M4 M6 M7 h2 h4 h6 h7 N P5).trans ?_
  refine wp_mono _ _ _ fun a => ?_
  refine chunk_step c i M1 M2 M3 M4 M6 M7 h2 h6 h7 N _ 768 1024 ?_ ?_ ?_ ?_
  · rfl
  · exact chunk_skip i 768 (.inl rfl)
  refine chunk_step c i M1 M2 M3 M4 M6 M7 h2 h6 h7 N _ 1024 1280 ?_ ?_ ?_ ?_
  · rfl
  · exact chunk_skip i 1024 (.inr (.inl rfl))
  refine chunk_step c i M1 M2 M3 M4 M6 M7 h2 h6 h7 N _ 1280 1536 ?_ ?_ ?_ ?_
  · rfl
  · exact chunk_skip i 1280 (.inr (.inr (.inl rfl)))
  refine chunk_step c i M1 M2 M3 M4 M6 M7 h2 h6 h7 N _ 1536 1792 ?_ ?_ ?_ ?_
  · rfl
  · exact chunk_skip i 1536 (.inr (.inr (.inr rfl)))
  exact wp_end c

include h3 h6 h7 in
/-- The serial stretch at a point of hidden nodes. -/
theorem serial_run (hs : k0_cond7 i = 1#1) (hT : N.top = 1792) (P5 : sProp 𝕄) :
    held c i M1 M2 M3 M4 N P5 (holds c M6 (actsTo N (doneAt i))) (holds c M7 (sumsTo N i 2048))
      ⊢ wp frame (wpE (defs₀ (F := Ideal)) Variants.none c none) Set.univ (groups (F := Ideal) i M3 M6 M7 hs)
        (fun _ => held c i M1 M2 M3 M4 N P5 (holds c M6 (actsTo N (min (nodeAt i + 128) 1792))) iprop(∃ f, pt c M7 f)) := by
  have hi := (serial_test i).mp hs
  have hn : nodeAt i + 128 ≤ 1792 := by rw [nodeAt]; omega
  have hd : doneAt i = nodeAt i := by rw [doneAt]; omega
  rw [sumsTo_all, hd, min_eq_left hn]
  have key := groups_run c i M3 M6 M7 h3 h6 h7 hs N (by omega)
  unfold rowsDone at key
  unfold held
  iintro ⟨H1, H2, H3, H4, H5, H6, H7⟩
  iapply (wp_wand_r frame (wpE (defs₀ (F := Ideal)) Variants.none c none) Set.univ)
  isplitl [H3 H6 H7]
  · iapply key
    isplitl [H3]; · iexact H3
    isplitl [H6]; · iexact H6
    iexact H7
  iintro %_ ⟨H3, H6, H7⟩
  isplitl [H1]; · iexact H1
  isplitl [H2]; · iexact H2
  isplitl [H3]; · iexact H3
  isplitl [H4]; · iexact H4
  isplitl [H5]; · iexact H5
  isplitl [H6]; · iexact H6
  unfold holds
  icases H7 with ⟨%f, -, H⟩
  iexists f; iexact H

include h1 h2 h3 h4 h5 h6 h7 in
/-- The body at a grid point: the node values go on to the block's last node, and at the two points of the outputs the
    result's block holds the block's node values. -/
theorem stages_run (hT : N.top = 1792) (X5 : S128x1024.Idx → EReal) :
    held c i M1 M2 M3 M4 N (holds c M5 X5) (foundActs c i M6 N) iprop(∃ f, pt c M7 f)
      ⊢ wp frame (wpE (defs₀ (F := Ideal)) Variants.none c none) Set.univ (stages (F := Ideal) i M1 M2 M3 M4 M5 M6 M7)
        (fun _ => held c i M1 M2 M3 M4 N (leftOut c i M5 N X5) (holds c M6 (actsTo N (min (nodeAt i + 128) 1792))) iprop(∃ f, pt c M7 f)) := by
  unfold stages stagesOf
  refine wp_seq c (sums_run c i M1 M2 M3 M4 M6 M7 h1 h2 h4 h6 h7 N _) fun r => ?_
  refine chunk_step c i M1 M2 M3 M4 M6 M7 h2 h6 h7 N _ 1792 2048 rfl _ (fun _ => by rw [doneAt]; omega) ?_
  dsimp only
  by_cases hs : k0_cond7 i = 1#1
  · rw [dif_pos hs]
    have hi := (serial_test i).mp hs
    simp only [leftOut, if_neg (show ¬ 10 ≤ (i 0).val by omega)]
    refine wp_seq c (serial_run c i M1 M2 M3 M4 M6 M7 h3 h6 h7 N hs hT _) fun _ => ?_
    refine wp_whenDo c (fun h => absurd ((emit_test i).mp h) (by omega)) (fun _ => .rfl) (wp_end c)
  · rw [dif_neg hs]
    have hi : 10 ≤ (i 0).val := by
      by_contra h
      exact hs ((serial_test i).mpr (by omega))
    have hd : doneAt i = min (nodeAt i + 128) 1792 := by rw [doneAt, nodeAt]; omega
    simp only [leftOut, if_pos hi, ← hd]
    refine wp_whenDo c (fun h => emit_run c i M1 M2 M3 M4 M5 M7 h5 h7 N hi hT _ _) (fun h => absurd ((emit_test i).mpr hi) h) (wp_end c)

end Run

end Cert.KernelIdeal.Proof
-- ==== Proof.Entries.lean ====
/-
  The network that the three arguments are, and what the kernel's windows show of it at each grid point.
-/
module

public import proofs.«01_k».proof.Proof.StageRun
public import proofs.«01_k».proof.Proof.Gen.KernelIdeal.Frame
public import Idealize.ShloMosaic.Lib.Pipeline.FrameSuffix
public import Idealize.ShloMosaic.Lib.LaneScatter.Own
public import Idealize.ShloMosaic.Lib.Pipeline.ValueKit
public import Idealize.ShloMosaic.Lib.Pipeline.ValueKit.Point
public import Idealize.ShloMosaic.Lib.StableHlo.ReadAt

@[expose] public section

noncomputable section

namespace Cert.Dag

open Idealize.ShloMosaic

/-- A matrix's entry, zero outside the matrix. -/
def entry {a b : ℕ} (f : (⟨2, ![a, b]⟩ : Shape).Idx → EReal) (r j : ℕ) : EReal :=
  if h : r < a ∧ j < b then f (ValueIdx.ix2 ⟨r, h.1⟩ ⟨j, h.2⟩) else 0

/-- At an index of the matrix, the entry is the matrix's. -/
theorem entry_of_lt {a b : ℕ} (f : (⟨2, ![a, b]⟩ : Shape).Idx → EReal) (y : (⟨2, ![a, b]⟩ : Shape).Idx) {r j : ℕ}
    (hr : r = (y 0).val) (hj : j = (y 1).val) : entry f r j = f y := by
  subst hr hj
  rw [entry, dif_pos ⟨(y 0).isLt, (y 1).isLt⟩]
  exact congrArg f (ValueIdx.eq_ix2 y).symm

/-- A vector's entry, zero outside the vector. -/
def entry1 {a : ℕ} (f : (⟨1, ![a]⟩ : Shape).Idx → EReal) (r : ℕ) : EReal :=
  if h : r < a then f (ValueIdx.ix1 ⟨r, h⟩) else 0

/-- At an index of the vector, the entry is the vector's. -/
theorem entry1_of_lt {a : ℕ} (f : (⟨1, ![a]⟩ : Shape).Idx → EReal) (y : (⟨1, ![a]⟩ : Shape).Idx) {r : ℕ}
    (hr : r = (y 0).val) : entry1 f r = f y := by
  subst hr
  rw [entry1, dif_pos (show (y 0).val < a from (y 0).isLt)]
  exact congrArg f (ValueIdx.eq_ix1 y).symm

/-- The network of a batch of inputs, a weight matrix and a bias, each node reading the nodes before both itself and `top`. -/
def netOf (top : ℕ) (x : (⟨2, ![1024, 512]⟩ : Shape).Idx → EReal) (W : (⟨2, ![2048, 2048]⟩ : Shape).Idx → EReal)
    (b : (⟨1, ![2048]⟩ : Shape).Idx → EReal) : Net where
  w := entry W
  b := entry1 b
  x r β := entry x β r
  top := top

end Cert.Dag

namespace Cert.KernelIdeal.Proof

open Cert.KernelIdeal Cert.KernelIdeal.Gen Cert.Dag
open Idealize.ShloMosaic Idealize.ShloMosaic.TcCoe Idealize.ShloMosaic.Tactic
open Idealize.ShloMosaic.StableHlo
open Idealize.SL.Sem

variable (m : (ℓ : Loc nD τ sig) → Buf (Elt Ideal) ℓ)

/-- The network that core `c`'s arguments are. -/
def net (c : Dev nD) : Net :=
  netOf 1792 (m ((c : Thread nD τ).loc main_arg0)) (m ((c : Thread nD τ).loc main_arg1)) (m ((c : Thread nD τ).loc main_arg2))

/-- The first operand, as the launch finds it: the inputs, a row for each input. -/
theorem V_main_v0 (c : Dev nD) (y : S512x1024.Idx) : V m c main_v0 y = (net m c).x (y 0).val (y 1).val := by
  unfold V V0
  simp only [List.flatten_cons, List.flatten_nil, List.append_nil]
  after_reads_at
  exact (entry_of_lt _ _ rfl rfl).symm

/-- The biases, as the launch finds them: of the nodes after the inputs, by blocks. -/
theorem V_main_v2 (c : Dev nD) (y : S12x128x1.Idx) : V m c main_v2 y = (net m c).b (512 + 128 * (y 0).val + (y 1).val) := by
  unfold V V0
  simp only [List.flatten_cons, List.flatten_nil, List.append_nil]
  after_reads_at
  exact (entry1_of_lt _ _ (by simp only [ix1]; omega)).symm

/-- Where each operand window's block is, in blocks. -/
theorem index0 (t : Fin cfg0.N) : win0_0.index t 0 = 0 ∧ win0_0.index t 1 = 0 := by revert t; decide +kernel

/-- The weights' window goes down one block of rows at a time, from the fifth. -/
theorem index1 (t : Fin cfg0.N) : win0_1.index t 0 = t.val + 4 ∧ win0_1.index t 1 = 0 := by revert t; decide +kernel

/-- The diagonal window goes down the diagonal, from the fifth block. -/
theorem index2 (t : Fin cfg0.N) : win0_2.index t 0 = t.val + 4 ∧ win0_2.index t 1 = t.val + 4 := by revert t; decide +kernel

/-- The biases' window goes down one block at a time, from the first. -/
theorem index3 (t : Fin cfg0.N) : win0_3.index t 0 = t.val ∧ win0_3.index t 1 = 0 := by revert t; decide +kernel

/-- A grid point's coordinate is its number. -/
theorem coord_eq (t : Fin cfg0.N) : (grid0.coords t 0).val = t.val := by revert t; decide +kernel

/-- Grid point `t` computes the block of nodes that starts at `512 + 128 t`. -/
theorem nodeAt_eq (t : Fin cfg0.N) : nodeAt (grid0.coords t) = 512 + 128 * t.val := by rw [nodeAt, coord_eq]

/-- The inputs, at every point. -/
theorem iblk0 (c : Dev nD) (t : Fin cfg0.N) : iblk m c 0 t = tab 512 1024 (net m c).x := by
  funext y
  refine (V_main_v0 m c _).trans ?_
  blk_simp
  rw [(index0 t).1, (index0 t).2]
  simp only [Nat.zero_mul, Nat.zero_add]
  rfl

/-- The weights of the block's nodes. -/
theorem iblk1 (c : Dev nD) (t : Fin cfg0.N) : iblk m c 1 t = tab 128 2048 fun p q => (net m c).w (nodeAt (grid0.coords t) + p) q := by
  funext y
  refine (congrFun (V_main_arg1 m c) _).trans (entry_of_lt _ _ ?_ ?_).symm
  · blk_simp
    rw [nodeAt_eq, (index1 t).1]
    omega
  · blk_simp
    rw [(index1 t).2]
    omega

/-- The weights between the block's nodes. -/
theorem iblk2 (c : Dev nD) (t : Fin cfg0.N) : iblk m c 2 t = diagOf (grid0.coords t) (net m c) := by
  funext y
  refine (congrFun (V_main_arg1 m c) _).trans (entry_of_lt _ _ ?_ ?_).symm
  · blk_simp
    rw [nodeAt_eq, (index2 t).1]
    omega
  · blk_simp
    rw [nodeAt_eq, (index2 t).2]
    omega

/-- The biases of the block's nodes. -/
theorem iblk3 (c : Dev nD) (t : Fin cfg0.N) : iblk m c 3 t = biasOf (net m c) (grid0.coords t) := by
  funext y
  refine (V_main_v2 m c _).trans ?_
  have hy : (y 0).val = 0 := Nat.lt_one_iff.mp (y 0).isLt
  blk_simp
  rw [(index3 t).1, (index3 t).2, Nat.zero_mul, Nat.zero_add, biasOf, nodeAt_eq]

end Cert.KernelIdeal.Proof
-- ==== Proof.KernelValue.lean ====
/-
  The idealized kernel's run: its three argument arrays end as they were, every semaphore counter at zero, and its result is
  the node values of the last 256 nodes.
-/
module

public import proofs.«01_k».proof.Proof.Entries

@[expose] public section

noncomputable section

namespace Cert.KernelIdeal.Proof

open Cert.KernelIdeal Cert.KernelIdeal.Gen Cert.Dag
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A whole memref read at `X` holds `X`. -/
theorem holds_of_owns (c : Dev nD) {sp : Space} {S : Shape} {e : EltTy} (M : Memref sig .tc sp S e) (h : M.IsWhole) (X : S.Idx → Elt Ideal e) :
    (owns (c : Thread nD τ) M fullShare X : sProp 𝕄) ⊢ holds c M X := by
  have h1 := LaneScatter.owns_raw (Ix := Unit) (Name := ℕ) (U := UR sig nD τ) (Lvl := ℕ) (c : Thread nD τ) M h X
  unfold LaneScatter.raw at h1; rw [h.set_eq_univ] at h1
  unfold holds
  iintro H
  ihave H := h1 $$ H
  iexists (h.unread X)
  isplitr
  · ipureintro; exact h.read_unread X
  iexact H

/-- And back. -/
theorem owns_of_holds (c : Dev nD) {sp : Space} {S : Shape} {e : EltTy} (M : Memref sig .tc sp S e) (h : M.IsWhole) (X : S.Idx → Elt Ideal e) :
    holds c M X ⊢ (owns (c : Thread nD τ) M fullShare X : sProp 𝕄) := by
  unfold holds
  iintro ⟨%f, %e, H⟩
  have h1 := LaneScatter.raw_owns (Ix := Unit) (Name := ℕ) (U := UR sig nD τ) (Lvl := ℕ) (c : Thread nD τ) M e
  unfold LaneScatter.raw at h1; rw [h.set_eq_univ] at h1
  iapply h1
  iexact H

/-- The block of results that an output point leaves. -/
def outBlock (c : Dev nD) (t : Fin cfg0.N) : FVec Ideal S128x1024 .f32 :=
  tab 128 1024 fun p q => act (net m c) q (nodeAt (grid0.coords t) + p)

/-- The node values before grid point `n`: of the first point nothing is asked. -/
def actsBefore (c : Dev nD) (n : ℕ) : sProp 𝕄 :=
  if n = 0 then iprop(∃ f, pt c (Memref.whole cc0_scratch0) f)
  else holds c (Memref.whole cc0_scratch0) (actsTo (net m c) (min (512 + 128 * n) 1792))

/-- Whatever is known of the node values, the scratch array that holds them is there. -/
theorem actsBefore_any (c : Dev nD) (n : ℕ) : actsBefore m c n ⊢ iprop(∃ f, pt c (Memref.whole cc0_scratch0) f) := by
  unfold actsBefore holds
  split
  · exact .rfl
  · iintro ⟨%f, -, H⟩
    iexists f; iexact H

/-- What a grid point asks of the node values is what the invariant says of them before that point. -/
theorem foundActs_eq (c : Dev nD) (t : Fin cfg0.N) :
    foundActs c (grid0.coords t) (Memref.whole cc0_scratch0) (net m c) = actsBefore m c t.val := by
  unfold foundActs actsBefore
  rw [doneAt, nodeAt_eq, coord_eq]

/-- The invariant between grid points. -/
def inv (c : Dev nD) (n : ℕ) : sProp 𝕄 :=
  iprop((actsBefore m c n ∗ ∃ f, pt c (Memref.whole cc0_scratch1) f) ∗ ∃ r, prngReg c r)

/-- The proof data: the arrays as the region finds them, the operand blocks left in place, the result's blocks, and the node
    values between points. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m c t
  Φ t := inv m c t.val
  q w := Pipeline.shareOf spec0 w
  owed _ := 0

/-- The proof data's array under each window is the array that the region finds there. -/
theorem A_eq (c : Dev nD) (w : Fin cfg0.W) : (dats m 0 c).A w = V m c (Pipeline.arrRef spec0 w) := by dsimp only [dats]

/-- The body table's row at a grid point is the body on that point's buffers. -/
theorem defs₀_row (t : Fin cfg0.N) : defs₀ (F := Ideal) .tc cfg0.body (cfg0.bodyArgs t (cfg0.slots t)) = bodyAt0 t := by
  unfold defs₀; rw [Defs.onTc_tc]

/-- What the body leaves in the result's block that it found at `X`. -/
def leftBlock (c : Dev nD) (t : Fin cfg0.N) (X : S128x1024.Idx → EReal) : S128x1024.Idx → EReal :=
  if 10 ≤ t.val then outBlock m c t else X

/-- What the body leaves in the result's buffer: the block of the output nodes at the last two points, else what it found. -/
theorem leftOut_eq (c : Dev nD) (t : Fin cfg0.N) (M : Memref sig .tc .vmem S128x1024 .f32) (X : S128x1024.Idx → EReal) :
    leftOut c (grid0.coords t) M (net m c) X = holds c M (leftBlock m c t X) := by
  unfold leftOut leftBlock outBlock
  rw [coord_eq]
  split <;> rfl

/-- The windows' buffers around the body at a point: the operands' blocks, and the result's at `X`. -/
def around (c : Dev nD) (t : Fin cfg0.N) (X : S128x1024.Idx → EReal) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare X)

/-- The body at a point, from the invariant before it to the invariant after it. -/
theorem sound_body (c : Dev nD) (t : Fin cfg0.N) (X : S128x1024.Idx → EReal) :
    iprop(inv m c t.val ∗ (dats m 0 c).owesAt () t.castSucc ∗ around m c t X)
      ⊢ wp frame (wpE (defs₀ (F := Ideal)) Variants.none c none) Set.univ (bodyAt0 t)
        (fun _ => iprop(inv m c (t.val + 1) ∗ (dats m 0 c).owesAt () t.succ ∗ around m c t (leftBlock m c t X))) := by
  rw [show (dats m 0 c).owesAt () t.succ = (dats m 0 c).owesAt () t.castSucc from rfl]
  unfold bodyAt0
  rw [stages_eq]
  have run := stages_run c (grid0.coords t) (st0_0 t) (st0_1 t) (st0_2 t) (st0_3 t) (st0_4 t) (Memref.whole cc0_scratch0) (Memref.whole cc0_scratch1)
    (hstage0_0 _) (hstage0_1 _) (hstage0_2 _) (hstage0_3 _) (hstage0_4 _) (Memref.isWhole_whole _) (Memref.isWhole_whole _) (net m c) rfl X
  rw [foundActs_eq, leftOut_eq, nodeAt_eq, Nat.add_assoc, ← Nat.mul_succ] at run
  unfold held at run
  rw [← iblk0 m c t, ← iblk1 m c t, ← iblk2 m c t, ← iblk3 m c t] at run
  unfold around inv
  iintro ⟨⟨⟨H6, H7⟩, Hg⟩, HO, H1, H2, H3, H4, H5⟩
  ihave H1 := (holds_of_owns c (st0_0 t) (hstage0_0 _) _) $$ H1
  ihave H2 := (holds_of_owns c (st0_1 t) (hstage0_1 _) _) $$ H2
  ihave H3 := (holds_of_owns c (st0_2 t) (hstage0_2 _) _) $$ H3
  ihave H4 := (holds_of_owns c (st0_3 t) (hstage0_3 _) _) $$ H4
  ihave H5 := (holds_of_owns c (st0_4 t) (hstage0_4 _) _) $$ H5
  iapply (wp_wand_r frame (wpE (defs₀ (F := Ideal)) Variants.none c none) Set.univ)
  isplitl [H1 H2 H3 H4 H5 H6 H7]
  · iapply run
    isplitl [H1]; · iexact H1
    isplitl [H2]; · iexact H2
    isplitl [H3]; · iexact H3
    isplitl [H4]; · iexact H4
    isplitl [H5]; · iexact H5
    isplitl [H6]; · iexact H6
    iexact H7
  iintro %_ ⟨H1, H2, H3, H4, H5, H6, H7⟩
  isplitl [H6 H7 Hg]
  · isplitr [Hg]
    · isplitl [H6]
      · unfold actsBefore
        rw [if_neg (Nat.succ_ne_zero _)]
        iexact H6
      iexact H7
    iexact Hg
  isplitl [HO]; · iexact HO
  isplitl [H1]; · iapply (owns_of_holds c (st0_0 t) (hstage0_0 _) _); iexact H1
  isplitl [H2]; · iapply (owns_of_holds c (st0_1 t) (hstage0_1 _) _); iexact H2
  isplitl [H3]; · iapply (owns_of_holds c (st0_2 t) (hstage0_2 _) _); iexact H3
  isplitl [H4]; · iapply (owns_of_holds c (st0_3 t) (hstage0_3 _) _); iexact H4
  iapply (owns_of_holds c (st0_4 t) (hstage0_4 _) _); iexact H5

/-- The inputs' buffer at a grid point holds the inputs. -/
theorem before0 (c : Dev nD) (t : Fin cfg0.N) (d) : (dats m 0 c).before 0 t d = iblk m c 0 t := before0_0_of m _ (A_eq m c 0) (fun _ => rfl) t d

/-- The weights' buffer at a grid point holds the block's rows of weights. -/
theorem before1 (c : Dev nD) (t : Fin cfg0.N) (d) : (dats m 0 c).before 1 t d = iblk m c 1 t := before0_1_of m _ (A_eq m c 1) (fun _ => rfl) t d

/-- The diagonal window's buffer at a grid point holds the block's weights for itself. -/
theorem before2 (c : Dev nD) (t : Fin cfg0.N) (d) : (dats m 0 c).before 2 t d = iblk m c 2 t := before0_2_of m _ (A_eq m c 2) (fun _ => rfl) t d

/-- The biases' buffer at a grid point holds the block's biases. -/
theorem before3 (c : Dev nD) (t : Fin cfg0.N) (d) : (dats m 0 c).before 3 t d = iblk m c 3 t := before0_3_of m _ (A_eq m c 3) (fun _ => rfl) t d

/-- The result's window is idle at the points of the hidden nodes, and is written back at the others. -/
theorem idle4 (t : Fin cfg0.N) : cfg0.idle 4 (cfg0.grid.coords t) = decide (t.val < 10) := by revert t; decide +kernel

/-- The result's window is written back at the points of the output nodes and at no other. -/
theorem flush4 (t : Fin cfg0.N) : (cfg0.win 4).flush t = decide (10 ≤ t.val) := by revert t; decide +kernel

/-- The result's buffer after the body, as the library asks for it. -/
theorem left_post (c : Dev nD) (t : Fin cfg0.N) (d) :
    (owns (c : Thread nD τ) (st0_4 t) fullShare (leftBlock m c t ((dats m 0 c).before 4 t d)) : sProp 𝕄)
      ⊢ (match cfg0.idle 4 (cfg0.grid.coords t) with
        | true => match (cfg0.win 4).flush t with
          | false => iprop(∃ d, owns (c : Thread nD τ) (st0_4 t) fullShare ((dats m 0 c).before 4 t d))
          | true => owns (c : Thread nD τ) (st0_4 t) fullShare ((dats m 0 c).after 4 t)
        | false => owns (c : Thread nD τ) (st0_4 t) fullShare ((dats m 0 c).after 4 t)) := by
  rw [idle4, flush4]
  unfold leftBlock
  by_cases h : 10 ≤ t.val
  · rw [if_pos h, decide_eq_false (by omega)]
    exact .rfl
  · rw [if_neg h, decide_eq_true (by omega), decide_eq_false h]
    iintro H
    iexists d
    iexact H

/-- The library's body obligation. -/
theorem body_obligation (c : Dev nD) : BodyObligation (dats m 0 c) (defs₀ (F := Ideal)) Variants.none () Set.univ := fun t => by
  rw [bigSep_W0, bigSep_W0, defs₀_row]
  show iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ ∃ d, owns (c : Thread nD τ) (st0_4 t) fullShare ((dats m 0 c).before 4 t d)) ⊢ _
  simp only [before0, before1, before2, before3]
  iintro ⟨HΦ, HO, ⟨%_, H1⟩, ⟨%_, H2⟩, ⟨%_, H3⟩, ⟨%_, H4⟩, ⟨%d, H5⟩⟩
  have run := sound_body m c t ((dats m 0 c).before 4 t d)
  rw [show inv m c (t.val + 1) = (dats m 0 c).Φ t.succ from rfl] at run
  iapply (wp_wand_r frame (wpE (defs₀ (F := Ideal)) Variants.none c none) Set.univ)
  isplitl [HΦ HO H1 H2 H3 H4 H5]
  · iapply run
    unfold around
    isplitl [HΦ]; · iexact HΦ
    isplitl [HO]; · iexact HO
    isplitl [H1]; · iexact H1
    isplitl [H2]; · iexact H2
    isplitl [H3]; · iexact H3
    isplitl [H4]; · iexact H4
    iexact H5
  unfold around
  iintro %_ ⟨HΦ, HO, H1, H2, H3, H4, H5⟩
  isplitl [HΦ]; · iexact HΦ
  isplitl [HO]; · iexact HO
  isplitl [H1]; · iexact H1
  isplitl [H2]; · iexact H2
  isplitl [H3]; · iexact H3
  isplitl [H4]; · iexact H4
  iapply (left_post m c t d); iexact H5

/-- Where the result window's block is, in blocks. -/
theorem index4 (t : Fin cfg0.N) : win0_4.index t 0 = t.val - 10 ∧ win0_4.index t 1 = 0 := by revert t; decide +kernel

/-- The result's array after the region: the last 256 nodes' values. -/
theorem arr4 (c : Dev nD) : (dats m 0 c).arrAt 4 cfg0.N = (tab 256 1024 fun p q => act (net m c) q (1792 + p) : S256x1024.Idx → EReal) := by
  refine (dats m 0 c).arrAt_eq_of_covers 4 _ (by decide +kernel) fun t hf y => ?_
  have ht : 10 ≤ t.val := of_decide_eq_true ((flush4 t).symm.trans hf)
  show act (net m c) (y 1).val (nodeAt (grid0.coords t) + (y 0).val)
    = act (net m c) (((win0_4.blk t).view.emb y) 1).val (1792 + (((win0_4.blk t).view.emb y) 0).val)
  blk_simp
  rw [(index4 t).1, (index4 t).2, nodeAt_eq]
  congr 1 <;> omega

/-- And so the result, a row for each input of the batch. -/
theorem out_value (c : Dev nD) (y : S1024x256.Idx) :
    Pipeline.afterTail₀ cfgs (dats m) 0 (V0 m) [hostOps1] c main_v4 y = act (net m c) (y 0).val (1792 + (y 1).val) := by
  unfold Pipeline.afterTail₀
  simp only [List.flatten_cons, List.flatten_nil, List.append_nil]
  after_reads_at
  exact congrFun ((Pipeline.withArrays_arr_shared spec0 c (V0 m c) (fun w => (dats m 0 c).arrAt w (cfgs 0).N)
    ((dats m 0 c).arrAt_sharedIn launch₀0.sharedIn (V0 m c) (A_eq m c) _) 4).trans (arr4 m c)) (ix2 (y 1) (y 0))

set_option backward.isDefEq.respectTransparency.types false in
/-- From any memory with zero counters, every run of the program ends with its three argument arrays as they were, every
    semaphore counter at zero, and the result at the last 256 nodes' values. -/
theorem run_value :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v4) = fun y : S1024x256.Idx => act (net m c) (y 0).val (1792 + (y 1).val))
      ∧ r.2.sem = fun _ => 0) :=
  Pipeline.θ_run_frame_around_track_shared cfgs (dats m) 0 launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps)
    (hmain := hmain m Variants.none) (hA := A_eq m)
    (hin := fun c => by
      show Pipeline.ΦA spec0 c ⊢ inv m c 0
      unfold Pipeline.ΦA inv actsBefore
      rw [scopedRest0_eq]
      exact .rfl)
    (hout := fun c => by
      show inv m c 12 ⊢ Pipeline.ΦA spec0 c
      unfold Pipeline.ΦA inv
      rw [scopedRest0_eq]
      iintro ⟨⟨H6, H7⟩, Hg⟩
      ihave H6 := (actsBefore_any m c 12) $$ H6
      isplitr [Hg]
      · isplitl [H6]; · iexact H6
        iexact H7
      iexact Hg)
    (Q' := fun r => (∀ c : Dev nD, _ ∧ _ ∧ _ ∧ _) ∧ r.2.sem = fun _ => 0)
    (hQ' := fun r h => ⟨fun c =>
      ⟨((h.1 c).2 main_arg0 (Pipeline.mem_restRefs_of main_arg0 (by decide) (by decide))).trans (W_main_arg0 m (dats m) c),
        ((h.1 c).1 2).trans (((dats m 0 c).arrAt_in 2 rfl _).trans (V_main_arg1 m c)),
        ((h.1 c).2 main_arg2 (Pipeline.mem_restRefs_of main_arg2 (by decide) (by decide))).trans (W_main_arg2 m (dats m) c),
        ((h.1 c).2 main_v4 (Pipeline.mem_restRefs_of main_v4 (by decide) (by decide))).trans (funext fun y => out_value m c y)⟩, h.2⟩)

end Cert.KernelIdeal.Proof
-- ==== Proof.RefTrip.lean ====
/-
  One trip of the reference's loop: which node it takes, its row of weights, and what it leaves in the matrix of activations.
-/
module

public import proofs.«01_k».proof.Proof.Gen.ReferenceIdeal.Run
public import proofs.«01_k».proof.Proof.Entries
public import Idealize.ShloMosaic.Lib.StableHlo.ReadAt
public import Idealize.ShloMosaic.Lib.Routing.OpsOne
public import Idealize.ShloMosaic.Lib.Tactic.WordOmega

@[expose] public section

noncomputable section

namespace Cert.ReferenceIdeal.Value

open Cert.ReferenceIdeal Cert.ReferenceIdeal.Gen Cert.Dag
open Idealize.ShloMosaic Idealize.ShloMosaic.TcCoe Idealize.ShloMosaic.Tactic
open Idealize.ShloMosaic.StableHlo

/-! ## The host operations at an index -/

/-- Setting one column of the matrix of activations: where the index word is the column `k`, column `k` of the
    result is the vector written, every other column the operand's. -/
theorem set_column (x : S1024x2048.Idx → EReal) (idx : IVec S1 32) (u : S1024.Idx → EReal) (k : ℕ) (hk : k < 2048)
    (h : idx (ValueIdx.ix1 0) = BitVec.ofNat 32 k) (y : S1024x2048.Idx) :
    Host.scatter scatter_S1024x2048_S1_S1024_0_1_1_0 (fun _ b => b) x idx u y
      = if (y 1).val = k then u (ValueIdx.ix1 (y 0)) else x y := by
  have hw0 (j : S1024.Idx) : scatter_S1024x2048_S1_S1024_0_1_1_0.window j 0 = (j 0).val := rfl
  have hw1 (j : S1024.Idx) : scatter_S1024x2048_S1_S1024_0_1_1_0.window j 1 = 0 := rfl
  have hs0 (j : S1024.Idx) : scatter_S1024x2048_S1_S1024_0_1_1_0.start j idx 0 = 0 := rfl
  have hs1 (j : S1024.Idx) : scatter_S1024x2048_S1_S1024_0_1_1_0.start j idx 1 = (k : Int) := by
    refine (congrArg (fun q => (idx q).toInt) (?_ : _ = ValueIdx.ix1 (0 : Fin 1))).trans
      (by simp only [h]; exact StableHlo.Predicate.toInt_ofNat_small _ (by omega))
    exact ValueIdx.eq_ix1 _ |>.trans (congrArg ValueIdx.ix1 (Subsingleton.elim _ _))
  have lands (j : S1024.Idx) : scatter_S1024x2048_S1_S1024_0_1_1_0.resultIdx? j idx = some y
      ↔ (j 0).val = (y 0).val ∧ k = (y 1).val := by
    rw [Routing.resultIdx?_eq_some]
    refine Fin.forall_fin_two.trans ?_
    rw [hw0, hw1, hs0, hs1]
    omega
  by_cases hy : (y 1).val = k
  · rw [if_pos hy]
    refine Routing.scatter_set_hit _ x idx u _ _ (fun j hj => ?_) (ValueIdx.ix1 (y 0)) ((lands _).2 ⟨rfl, hy.symm⟩)
    exact congrArg u ((ValueIdx.eq_ix1 j).trans (congrArg ValueIdx.ix1 (Fin.ext ((lands j).1 hj).1)))
  · rw [if_neg hy]
    exact Routing.scatter_set_miss _ x idx u _ fun j hj => hy ((lands j).1 hj).2.symm

/-- Setting the first 512 columns: at index word zero, those columns of the result are the block written, the
    others the operand's. -/
theorem set_first (x : S1024x2048.Idx → EReal) (idx : IVec S1 32) (u : S1024x512.Idx → EReal)
    (h : idx (ValueIdx.ix1 0) = 0#32) (y : S1024x2048.Idx) :
    Host.scatter scatter_S1024x2048_S1_S1024x512_01_n_1_0 (fun _ b => b) x idx u y
      = if hy : (y 1).val < 512 then u (ValueIdx.ix2 (y 0) ⟨(y 1).val, hy⟩) else x y := by
  have hw0 (j : S1024x512.Idx) : scatter_S1024x2048_S1_S1024x512_01_n_1_0.window j 0 = (j 0).val := rfl
  have hw1 (j : S1024x512.Idx) : scatter_S1024x2048_S1_S1024x512_01_n_1_0.window j 1 = (j 1).val := rfl
  have hs0 (j : S1024x512.Idx) : scatter_S1024x2048_S1_S1024x512_01_n_1_0.start j idx 0 = 0 := rfl
  have hs1 (j : S1024x512.Idx) : scatter_S1024x2048_S1_S1024x512_01_n_1_0.start j idx 1 = 0 := by
    refine (congrArg (fun q => (idx q).toInt) (?_ : _ = ValueIdx.ix1 (0 : Fin 1))).trans (by simp only [h]; decide)
    exact ValueIdx.eq_ix1 _ |>.trans (congrArg ValueIdx.ix1 (Subsingleton.elim _ _))
  have lands (j : S1024x512.Idx) : scatter_S1024x2048_S1_S1024x512_01_n_1_0.resultIdx? j idx = some y
      ↔ (j 0).val = (y 0).val ∧ (j 1).val = (y 1).val := by
    rw [Routing.resultIdx?_eq_some]
    refine Fin.forall_fin_two.trans ?_
    rw [hw0, hw1, hs0, hs1]
    omega
  by_cases hy : (y 1).val < 512
  · rw [dif_pos hy]
    refine Routing.scatter_set_hit _ x idx u _ _ (fun j hj => ?_) (ValueIdx.ix2 (y 0) ⟨(y 1).val, hy⟩) ((lands _).2 ⟨rfl, rfl⟩)
    obtain ⟨h0, h1⟩ := (lands j).1 hj
    exact congrArg u ((ValueIdx.eq_ix2 j).trans (congrArg₂ ValueIdx.ix2 (Fin.ext h0) (Fin.ext h1)))
  · rw [dif_neg hy]
    refine Routing.scatter_set_miss _ x idx u _ fun j hj => hy ?_
    have := (j 1).isLt
    have h1 := ((lands j).1 hj).2
    rw [← h1]; exact this

/-- Taking one row of the matrix of weights: where the index word is the row `k`, the result is row `k`. -/
theorem take_row (x : S2048x2048.Idx → EReal) (idx : IVec S1 32) (k : ℕ) (hk : k < 2048)
    (h : idx (ValueIdx.ix1 0) = BitVec.ofNat 32 k) (y : S2048.Idx) :
    Host.gather gather_S2048x2048_S1_S2048_0_0_n_n_0_0_12048 x idx y = x (ValueIdx.ix2 ⟨k, hk⟩ (y 0)) := by
  unfold Host.gather
  refine congrArg x (funext fun a => Fin.ext ?_)
  match a with
  | ⟨0, _⟩ =>
    have hs : gather_S2048x2048_S1_S2048_0_0_n_n_0_0_12048.start y idx 0 = k := by
      have e : gather_S2048x2048_S1_S2048_0_0_n_n_0_0_12048.start y idx 0 = min (idx (ValueIdx.ix1 0)).toInt.toNat (2048 - 1) := by
        refine congrArg (fun q => min (idx q).toInt.toNat (2048 - 1)) (?_ : _ = ValueIdx.ix1 (0 : Fin 1))
        exact ValueIdx.eq_ix1 _ |>.trans (congrArg ValueIdx.ix1 (Subsingleton.elim _ _))
      rw [e, h, StableHlo.Predicate.toInt_ofNat_small _ (by omega), Int.toNat_natCast]
      omega
    exact congrArg (· + 0 + 0) hs
  | ⟨1, _⟩ => exact Nat.zero_add _

variable (V : Valuation τ sig (Elt Ideal))

/-! ## One trip of the loop, stretch by stretch -/

/-- A node number is not negative. -/
theorem node_not_neg (k : ℕ) (hk : k < 2048) : IntOp.cmpi .slt (BitVec.ofNat 32 k) 0#32 = 0#1 := by
  word_omega

/-- The loop's counter at trip `k` is the word `k`. -/
theorem counter_eq (k : ℕ) : Scf.iv 0#32 1#32 k = BitVec.ofNat 32 k := by
  unfold Scf.iv
  rw [BitVec.zero_add, BitVec.mul_one]

/-- A slice of one entry reads where the index says, when that is inside the vector. -/
theorem at_start {α : Type} {n : ℕ} (x : (⟨1, ![n]⟩ : Shape).Idx → α) (h : (⟨1, ![1]⟩ : Shape).rank = (⟨1, ![n]⟩ : Shape).rank)
    (st : Fin 1 → Int) (k : ℕ) (hs : st 0 = k) (hk : k < n) (hb : Host.clampedStart ⟨1, ![n]⟩ ⟨1, ![1]⟩ h st 0 < n) :
    x (Idealize.ShloMosaic.ix1 ⟨Host.clampedStart ⟨1, ![n]⟩ ⟨1, ![1]⟩ h st 0, hb⟩) = x (ValueIdx.ix1 ⟨k, hk⟩) := by
  have e : Host.clampedStart ⟨1, ![n]⟩ ⟨1, ![1]⟩ h st 0 = k :=
    Host.clampedStart_of_le h st 0 k hs (by show k + 1 ≤ n; omega)
  refine congrArg x ((ValueIdx.eq_ix1 _).trans (congrArg ValueIdx.ix1 (Fin.ext e)))

/-- The first stretch reads off the list of nodes the one that the counter points at. -/
theorem node_read (k : ℕ) (hk : k < 1536) (h0 : V (Proc.devRef .tc main_v7_0) = fun y : S1536.Idx => BitVec.ofNat 32 (512 + (y 0).val))
    (h3 : V (Proc.devRef .tc main_v7_3) = fun _ => Scf.iv 0#32 1#32 k) (y : S_.Idx) :
    after while0Ops0 V (Proc.devRef .tc main_while0b_v9) y = BitVec.ofNat 32 (512 + k) := by
  have hc : BitVec.toInt (V (Proc.devRef .tc main_v7_3) (Shape.Idx.first h_S_)) = k := by
    rw [h3, counter_eq]
    exact StableHlo.Predicate.toInt_ofNat_small _ (by omega)
  after_reads_at
  refine (at_start _ _ _ k ?_ hk _).trans (congrFun h0 _)
  simp only [upto_zero]
  exact hc

/-- The second stretch takes that node's row of the matrix of weights. -/
theorem row_read (k : ℕ) (hk : k < 2048) (h9 : V (Proc.devRef .tc main_while0b_v9) = fun _ => BitVec.ofNat 32 k) (y : S2048.Idx) :
    after while0Ops0_1 V (Proc.devRef .tc main_while0b_v10) y = V (Proc.devRef .tc main_v7_1) (ValueIdx.ix2 ⟨k, hk⟩ (y 0)) := by
  have hge : IntOp.cmpi .sge (BitVec.ofNat 32 k) 0#32 = 1#1 := by word_omega
  have hle : IntOp.cmpi .sle (BitVec.ofNat 32 k) 2047#32 = 1#1 := by word_omega
  have hi : broadcastInDim S1 ![] bcast_S_S1 (select (cmpi .slt (fun _ => BitVec.ofNat 32 k) (constantI S_ 32 0#32))
      (addi (fun _ => BitVec.ofNat 32 k) (constantI S_ 32 2048#32)) fun _ : S_.Idx => BitVec.ofNat 32 k) (ValueIdx.ix1 0)
        = BitVec.ofNat 32 k := by
    pointwise
    rw [node_not_neg k hk]
    rfl
  after_reads_at
  rw [h9]
  refine (congrArg (fun c => Scalar.select c _ _) (?_ : _ = 1#1)).trans (take_row _ _ k hk hi y)
  beta_reduce
  rw [node_not_neg k hk]
  simp only [Finset.univ_unique, Finset.fold_singleton, ValueIdx.select_zero, hge, hle]
  decide

/-- The third stretch sets the node's column of the matrix of activations: `tanh` of the node's bias plus the sum, over
    all columns, of the activations times the node's row. The other columns stay. -/
theorem acts_read (k : ℕ) (hk : k < 2048) (h9 : V (Proc.devRef .tc main_while0b_v9) = fun _ => BitVec.ofNat 32 k)
    (a : S1024x2048.Idx → EReal) (ha : V (Proc.devRef .tc main_v7_4) = a) (w : S2048.Idx → EReal) (hw : V (Proc.devRef .tc main_while0b_v10) = w)
    (b : S2048.Idx → EReal) (hb : V (Proc.devRef .tc main_v7_2) = b) (y : S1024x2048.Idx) :
    after while0Ops0_2 V (Proc.devRef .tc main_v7_4) y
      = if (y 1).val = k then Ideal.tanh (∑ j : Fin 2048, a (ValueIdx.ix2 (y 0) j) * w (ValueIdx.ix1 j)
            + b (ValueIdx.ix1 ⟨k, hk⟩))
        else a y := by
  have hi : broadcastInDim S1 ![] bcast_S_S1 (select (cmpi .slt (fun _ => BitVec.ofNat 32 k) (constantI S_ 32 0#32))
      (addi (fun _ => BitVec.ofNat 32 k) (constantI S_ 32 2048#32)) fun _ : S_.Idx => BitVec.ofNat 32 k) (ValueIdx.ix1 0)
        = BitVec.ofNat 32 k := by
    pointwise
    rw [node_not_neg k hk]
    rfl
  after_reads_at
  rw [h9, ha, hw, hb]
  rw [id_eq]
  refine Eq.trans (set_column a _ _ k hk hi y) ?_
  by_cases h : (y 1).val = k
  · rw [if_pos h, if_pos h]
    pointwise
    have hu : upto while0Ops0_2 V 6 (Proc.devRef .tc main_while0b_v14) = fun _ => BitVec.ofNat 32 k := by
      unfold upto
      simp only [while0Ops0_2, List.take_succ_cons, List.take_zero]
      funext y
      after_reads_at
      rw [h9]
      beta_reduce
      rw [node_not_neg k hk, ValueIdx.select_zero]
    refine congrArg Ideal.tanh (congrArg₂ (· + ·) ?_ ?_)
    · exact Finset.sum_congr rfl fun j _ => congrArg₂ (· * ·) (congrArg a (ValueIdx.eq_ix2 _)) (congrArg w (ValueIdx.eq_ix1 _))
    · refine at_start b _ _ k ?_ hk _
      have hc : BitVec.toInt (upto while0Ops0_2 V 6 (Proc.devRef .tc main_while0b_v14) (Shape.Idx.first h_S_)) = k := by
        rw [hu]
        exact StableHlo.Predicate.toInt_ofNat_small _ (by omega)
      exact hc
  · rw [if_neg h, if_neg h]

end Cert.ReferenceIdeal.Value
-- ==== Proof.ReferenceValue.lean ====
/-
  The reference's value: after the loop's 1536 trips the matrix of activations holds every node's value.
-/
module

public import proofs.«01_k».proof.Proof.RefTrip

@[expose] public section

noncomputable section

namespace Cert.ReferenceIdeal.Value

open Cert.ReferenceIdeal Cert.ReferenceIdeal.Gen Cert.Dag
open Idealize.ShloMosaic Idealize.ShloMosaic.TcCoe Idealize.ShloMosaic.Tactic
open Idealize.ShloMosaic.StableHlo
open Idealize.SL.Sem

variable (x : S1024x512.Idx → EReal) (W : S2048x2048.Idx → EReal) (b : S2048.Idx → EReal)

/-- What the buffers hold before trip `k`: the list of nodes, the counter, the weights, the biases, and in the matrix
    of activations the values of the first `512 + k` nodes, zero in the columns after. -/
structure Before (k : ℕ) (V : Valuation τ sig (Elt Ideal)) : Prop where
  nodes : V (Proc.devRef .tc main_v7_0) = fun y : S1536.Idx => BitVec.ofNat 32 (512 + (y 0).val)
  ctr : V (Proc.devRef .tc main_v7_3) = fun _ => Scf.iv 0#32 1#32 k
  weights : V (Proc.devRef .tc main_v7_1) = W
  bias : V (Proc.devRef .tc main_v7_2) = b
  acts : V (Proc.devRef .tc main_v7_4) = fun y : S1024x2048.Idx => upTo (netOf 2048 x W b) (512 + k) (y 1).val (y 0).val

variable {x W b}

/-- The contents after a trip's condition and first two stretches. -/
abbrev ready (V : Valuation τ sig (Elt Ideal)) : Valuation τ sig (Elt Ideal) :=
  after while0Ops0_1 (after while0Ops0 (after condOps V))

/-- What a trip's condition and first two stretches do not write, they leave. -/
theorem ready_eq (V : Valuation τ sig (Elt Ideal)) {r : Ref sig .tc} (hc : r ∉ condOps_W) (h0 : r ∉ while0Ops0_W) (h1 : r ∉ while0Ops0_1_W) :
    ready V (Proc.devRef .tc r) = V (Proc.devRef .tc r) :=
  (after_of_writes_sub while0Ops0_1 _ while0Ops0_1_writes h1).trans
    ((after_of_writes_sub while0Ops0 _ while0Ops0_writes h0).trans (after_of_writes_sub condOps V condOps_writes hc))

/-- One trip computes one more node. -/
theorem Before.step {k : ℕ} (hk : k < 1536) {V : Valuation τ sig (Elt Ideal)} (h : Before x W b k V) :
    Before x W b (k + 1) (afterL bodyI (after condOps V)) := by
  have hk' : 512 + k < 2048 := by omega
  simp only [afterL_cons, afterL_nil]
  have keep {r : Ref sig .tc} (hc : r ∉ condOps_W) (h0 : r ∉ while0Ops0_W) (h1 : r ∉ while0Ops0_1_W) (h2 : r ∉ while0Ops0_2_W) :
      after while0Ops0_2 (ready V) (Proc.devRef .tc r) = V (Proc.devRef .tc r) :=
    (after_of_writes_sub while0Ops0_2 _ while0Ops0_2_writes h2).trans (ready_eq V hc h0 h1)
  have ec {r : Ref sig .tc} (hc : r ∉ condOps_W) : after condOps V (Proc.devRef .tc r) = V (Proc.devRef .tc r) :=
    after_of_writes_sub condOps V condOps_writes hc
  have hnode : after while0Ops0 (after condOps V) (Proc.devRef .tc main_while0b_v9) = fun _ => BitVec.ofNat 32 (512 + k) :=
    funext fun y => node_read _ k hk ((ec (by decide +kernel)).trans h.nodes) ((ec (by decide +kernel)).trans h.ctr) y
  have hrow : ready V (Proc.devRef .tc main_while0b_v10) = fun y : S2048.Idx => W (ValueIdx.ix2 ⟨512 + k, hk'⟩ (y 0)) :=
    funext fun y => (row_read _ (512 + k) hk' hnode y).trans (congrFun
      ((after_of_writes_sub while0Ops0 _ while0Ops0_writes (by decide +kernel)).trans ((ec (by decide +kernel)).trans h.weights)) _)
  refine ⟨?_, ?_, ?_, ?_, ?_⟩
  · exact (keep (by decide +kernel) (by decide +kernel) (by decide +kernel) (by decide +kernel)).trans h.nodes
  · rw [ctr_step, ctr_while0Ops0_1, ctr_while0Ops0, ctr_cond, h.ctr, Scf.iv_succ]
    rfl
  · exact (keep (by decide +kernel) (by decide +kernel) (by decide +kernel) (by decide +kernel)).trans h.weights
  · exact (keep (by decide +kernel) (by decide +kernel) (by decide +kernel) (by decide +kernel)).trans h.bias
  · funext y
    refine (acts_read (ready V) (512 + k) hk'
      ((after_of_writes_sub while0Ops0_1 _ while0Ops0_1_writes (by decide +kernel)).trans hnode)
      _ ((ready_eq V (by decide +kernel) (by decide +kernel) (by decide +kernel)).trans h.acts)
      _ hrow _ ((ready_eq V (by decide +kernel) (by decide +kernel) (by decide +kernel)).trans h.bias) y).trans ?_
    by_cases hy : (y 1).val = 512 + k
    · rw [if_pos hy, upTo_of_lt _ (by omega), act_node _ (by omega), hy, Nat.min_eq_left (show 512 + k ≤ (netOf 2048 x W b).top by show 512 + k ≤ 2048; omega)]
      refine congrArg Ideal.tanh ?_
      rw [pre, ← sum_upTo _ (show 512 + k ≤ 2048 by omega), Finset.sum_range, add_comm]
      refine congrArg₂ (· + ·) (entry1_of_lt b _ rfl).symm (Finset.sum_congr rfl fun j _ => ?_)
      rw [mul_comm]
      exact congrArg (· * _) (entry_of_lt W _ rfl rfl).symm
    · rw [if_neg hy]
      unfold upTo
      exact if_congr (by omega) rfl rfl

variable (m : (ℓ : Loc nD τ sig) → Buf (Elt Ideal) ℓ)

/-- At the loop's entry the matrix of activations holds the inputs. -/
theorem before_zero (c : Dev nD) : Before (m ((c : Thread nD τ).loc main_arg0)) (m ((c : Thread nD τ).loc main_arg1))
    (m ((c : Thread nD τ).loc main_arg2)) 0 (entryContents preI m c) := by
  refine ⟨?_, ctr_entry m c, ?_, ?_, ?_⟩
  · funext y
    simp only [entryContents, afterL_cons, afterL_nil]
    after_reads_at
    rw [id_eq]
    exact (BitVec.ofNat_add 512 _).symm
  · funext y
    simp only [entryContents, afterL_cons, afterL_nil]
    after_reads_at
    rfl
  · funext y
    simp only [entryContents, afterL_cons, afterL_nil]
    after_reads_at
    rfl
  · funext y
    simp only [entryContents, afterL_cons, afterL_nil]
    after_reads_at
    rw [id_eq]
    refine Eq.trans (set_first _ _ (m ((c : Thread nD τ).loc main_arg0)) rfl y) ?_
    by_cases hy : (y 1).val < 512
    · rw [dif_pos hy, upTo_of_lt _ hy, act_input _ hy]
      exact (entry_of_lt (a := 1024) (b := 512) _ (ValueIdx.ix2 (y 0) ⟨(y 1).val, hy⟩) rfl rfl).symm
    · rw [dif_neg hy, upTo_of_le _ (by omega)]
      exact Ideal.ofBits_zero_f32

/-- Before every trip, and after the last one. -/
theorem before (c : Dev nD) : ∀ k, k ≤ 1536 → Before (m ((c : Thread nD τ).loc main_arg0)) (m ((c : Thread nD τ).loc main_arg1))
    (m ((c : Thread nD τ).loc main_arg2)) k (atK m k c)
  | 0, _ => before_zero m c
  | k + 1, h => (before c k (by omega)).step (by omega)

/-- A buffer that no operation writes keeps its contents. -/
theorem kept (c : Dev nD) {r : Ref sig .tc} (hp : r ∉ hostOps0_W) (hc : r ∉ condOps_W) (h0 : r ∉ while0Ops0_W) (h1 : r ∉ while0Ops0_1_W)
    (h2 : r ∉ while0Ops0_2_W) (hq : r ∉ hostOps0_1_W) :
    finalContents condOps preI bodyI postI 1536 m c (Proc.devRef .tc r) = m ((c : Thread nD τ).loc r) := by
  have hk (k : ℕ) : atK m k c (Proc.devRef .tc r) = m ((c : Thread nD τ).loc r) := by
    induction k with
    | zero => exact after_of_writes_sub hostOps0 _ hostOps0_writes hp
    | succ k ih => exact (after_of_writes_sub while0Ops0_2 _ while0Ops0_2_writes h2).trans ((ready_eq _ hc h0 h1).trans ih)
  exact (after_of_writes_sub hostOps0_1 _ hostOps0_1_writes hq).trans
    ((after_of_writes_sub condOps _ condOps_writes hc).trans (hk 1536))

/-- The network that core `c`'s arguments are to the reference: each node reads all the nodes before it. -/
def net (c : Dev nD) : Net :=
  netOf 2048 (m ((c : Thread nD τ).loc main_arg0)) (m ((c : Thread nD τ).loc main_arg1)) (m ((c : Thread nD τ).loc main_arg2))

/-- The last stretch reads off the last 256 columns. -/
theorem out_read {V : Valuation τ sig (Elt Ideal)} (h : Before x W b 1536 V) : afterL postI (after condOps V) (Proc.devRef .tc main_v8)
    = fun y : S1024x256.Idx => act (netOf 2048 x W b) (y 0).val (1792 + (y 1).val) := by
  have ha := (after_of_writes_sub condOps V condOps_writes (r := main_v7_4) (by decide +kernel)).trans h.acts
  revert ha
  generalize after condOps V = U
  intro ha
  funext y
  have hy : (y 1).val < 256 := (y 1).isLt
  simp only [afterL_cons, afterL_nil]
  after_reads_at
  refine (congrFun ha _).trans (upTo_of_lt _ ?_)
  show 1792 + (y 1).val < 512 + 1536
  omega

/-- What the reference returns: the values of the last 256 nodes. -/
theorem final_v8 (c : Dev nD) : finalContents condOps preI bodyI postI 1536 m c (Proc.devRef .tc main_v8)
    = fun y : S1024x256.Idx => act (net m c) (y 0).val (1792 + (y 1).val) :=
  out_read (before m c 1536 le_rfl)

variable (ρ : Dev nD → PrngReg)

/-- Every run of the reference ends, with its arguments unchanged, the last 256 nodes' values in its result, and
    every counter at zero. -/
theorem run_value : θ_run (defs (F := Ideal)) (onTc (τ := τ) (main (F := Ideal))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v8) = fun y : S1024x256.Idx => act (net m c) (y 0).val (1792 + (y 1).val))
      ∧ r.2.sem = fun _ => 0) := by
  refine θ_run_mono (run_fold m ρ) fun r h => ⟨fun c => ⟨?_, ?_, ?_, ?_⟩, sem_eq_zero_of_no_sems (by decide) _⟩
  · exact (h c main_arg0 rfl).trans (kept m c (by decide +kernel) (by decide +kernel) (by decide +kernel) (by decide +kernel) (by decide +kernel) (by decide +kernel))
  · exact (h c main_arg1 rfl).trans (kept m c (by decide +kernel) (by decide +kernel) (by decide +kernel) (by decide +kernel) (by decide +kernel) (by decide +kernel))
  · exact (h c main_arg2 rfl).trans (kept m c (by decide +kernel) (by decide +kernel) (by decide +kernel) (by decide +kernel) (by decide +kernel) (by decide +kernel))
  · exact (h c main_v8 rfl).trans (final_v8 m c)

end Cert.ReferenceIdeal.Value
-- ==== Proof.Agree.lean ====
/-
  Where no output node reads another, the kernel's network and the reference's have the same node values.
-/
module

public import proofs.«01_k».proof.Pre_no_edge_among_outputs
public import proofs.«01_k».proof.Proof.Entries
public import Idealize.ShloMosaic.Lib.Tactic.WordOmega

@[expose] public section

noncomputable section

namespace Cert.Dag

open Idealize.ShloMosaic Idealize.ShloMosaic.Tactic
open Cert.Pre_no_edge_among_outputs

/-- The precondition's two side conditions on shapes. -/
theorem pre_facts : Cert.Pre_no_edge_among_outputs.Facts where
  slices_S2048x2048_S256x256_1792_1792 := by decide
  bcast_S_S256x256 := by decide

variable (x : S1024x512.Idx → EReal) (W : S2048x2048.Idx → EReal) (b : S2048.Idx → EReal)

/-- A matrix's entry at a row and a column that are known to be in it. -/
theorem entry_fin {a b : ℕ} (f : (⟨2, ![a, b]⟩ : Shape).Idx → EReal) (i : Fin a) (k : Fin b) {r j : ℕ} (hr : r = i.val) (hj : j = k.val) :
    entry f r j = f (Idealize.ShloMosaic.ix2 i k) :=
  entry_of_lt f (Idealize.ShloMosaic.ix2 i k) hr hj

/-- What the precondition says of the weights: an output node's weight for an output node before it is zero. -/
theorem weight_zero [Cert.Pre_no_edge_among_outputs.Facts]
    (h : Cert.Pre_no_edge_among_outputs.fn (F := Ideal) x W b = fun _ => 1#1) {r j : ℕ} (hj : 1792 ≤ j) (hr : j < r) (hr' : r < 2048) :
    entry W r j = 0 := by
  have e := congrFun h (ValueIdx.ix2 (⟨r - 1792, by omega⟩ : Fin 256) (⟨j - 1792, by omega⟩ : Fin 256))
  unfold Cert.Pre_no_edge_among_outputs.fn at e
  pointwise at e
  have hs : IntOp.cmpi .sle (BitVec.ofNat 32 (r - 1792)) (BitVec.ofNat 32 (j - 1792)) = 0#1 := by
    clear e h
    word_omega
  rw [hs] at e
  by_contra hn
  refine absurd e ?_
  have hw : ¬ W (Idealize.ShloMosaic.ix2 ⟨1792 + (r - 1792), by omega⟩ ⟨1792 + (j - 1792), by omega⟩) = 0 := fun q =>
    hn ((entry_fin W ⟨1792 + (r - 1792), by omega⟩ ⟨1792 + (j - 1792), by omega⟩ (by dsimp only; omega) (by dsimp only; omega)).trans q)
  rw [decide_eq_false hw]
  decide

/-- Reading only the nodes before the first output, or all the nodes before, gives the same value at every node, when
    the output nodes' weights for one another are zero. -/
theorem act_agree (h : ∀ r j, 1792 ≤ j → j < r → r < 2048 → entry W r j = 0) (β r : ℕ) (hr : r < 2048) :
    act (netOf 1792 x W b) β r = act (netOf 2048 x W b) β r := by
  induction r using Nat.strong_induction_on with
  | _ r ih =>
    by_cases h5 : r < 512
    · rw [act_input _ h5, act_input _ h5]
      rfl
    · rw [act_node _ (by omega), act_node _ (by omega)]
      show Ideal.tanh (pre _ (min r 1792) r β) = Ideal.tanh (pre _ (min r 2048) r β)
      rw [Nat.min_eq_left (show r ≤ 2048 by omega)]
      refine congrArg Ideal.tanh (congrArg (entry1 b r + ·) ?_)
      show ∑ j ∈ Finset.range (min r 1792), entry W r j * _ = ∑ j ∈ Finset.range r, entry W r j * _
      rw [← Finset.sum_subset (Finset.range_subset_range.mpr (Nat.min_le_left r 1792)) fun j hj hn => ?_]
      · refine Finset.sum_congr rfl fun j hj => ?_
        have := Finset.mem_range.mp hj
        rw [ih j (by omega) (by omega)]
      · have := Finset.mem_range.mp hj
        rw [Finset.mem_range] at hn
        rw [h r j (by omega) (by omega) hr, zero_mul]

end Cert.Dag
-- ==== Proof.lean ====
/-
  The proof of `Cert.Claim`. The kernel's run as printed is `Cert.Kernel.Proof.run_frame`; its run on exact values, with
  its result, `Cert.KernelIdeal.Proof.run_value`; the reference's, `Cert.ReferenceIdeal.Value.run_value`. Both results are
  the values of the last 256 nodes of the network that the arguments are, and `Cert.Dag.act_agree` says that the two ways
  of reading that network agree under the precondition.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelValue
public import proofs.«01_k».proof.Proof.ReferenceValue
public import proofs.«01_k».proof.Proof.Agree
public import Idealize.ShloMosaic.Adequacy
public import Idealize.ShloMosaic.Init

@[expose] public section

noncomputable section

namespace Cert.Proof

open Idealize.ShloMosaic Idealize.SL.Sem

/-- The kernel, as printed, runs, leaves its arguments and ends with every counter at zero. -/
theorem quiescent_kernel : Cert.quiescent_Kernel := fun m g _ => Cert.Kernel.Proof.run_frame m g

/-- The kernel on exact values runs, leaves its arguments and ends with every counter at zero. -/
theorem quiescent_kernelIdeal : Cert.quiescent_KernelIdeal := fun m g _ =>
  θ_run_mono (Cert.KernelIdeal.Proof.run_value m g) fun _ h => ⟨fun c => ⟨(h.1 c).1, (h.1 c).2.1, (h.1 c).2.2.1⟩, h.2⟩

/-- The reference on exact values runs, leaves its arguments and ends with every counter at zero. -/
theorem quiescent_referenceIdeal : Cert.quiescent_ReferenceIdeal := fun m g _ =>
  θ_run_mono (Cert.ReferenceIdeal.Value.run_value m g) fun _ h => ⟨fun c => ⟨(h.1 c).1, (h.1 c).2.1, (h.1 c).2.2.1⟩, h.2⟩

/-- From the same arguments, where no output node reads another, the kernel and the reference end with the same result. -/
theorem algebraic [Cert.Pre_no_edge_among_outputs.Facts] : Cert.algebraic_KernelIdeal_ReferenceIdeal_pre_no_edge_among_outputs := by
  intro m g m' g' hpre hargs
  refine ⟨_, θ_run_mono (Cert.KernelIdeal.Proof.run_value m g) fun _ h c => ⟨(h.1 c).2.2.2, (h.1 c).1, (h.1 c).2.1, (h.1 c).2.2.1⟩,
    θ_run_mono (Cert.ReferenceIdeal.Value.run_value m' g') fun _ h c => ⟨(h.1 c).2.2.2.trans ?_, (h.1 c).1, (h.1 c).2.1, (h.1 c).2.2.1⟩⟩
  obtain ⟨h0, h1, h2⟩ := hargs c
  funext y
  have hy : (y 1).val < 256 := (y 1).isLt
  unfold Cert.ReferenceIdeal.Value.net Cert.KernelIdeal.Proof.net
  rw [h0, h1, h2]
  exact (Cert.Dag.act_agree _ _ _ (fun r j hj hr hr' => Cert.Dag.weight_zero _ _ _ (hpre c) hj hr hr') _ _ (by omega)).symm

/-- Every claim of the certificate. -/
theorem claim : Cert.Claim :=
  ⟨Cert.Kernel.Gen.facts, Cert.KernelIdeal.Gen.facts, Cert.ReferenceIdeal.Gen.facts, Cert.Dag.pre_facts,
    quiescent_kernel, quiescent_kernelIdeal, fun m g _ => quiescent_kernelIdeal m g trivial,
    quiescent_referenceIdeal, fun m g _ => quiescent_referenceIdeal m g trivial, trivial,
    letI := Cert.Dag.pre_facts; algebraic⟩

end Cert.Proof

end
